-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_sum_below_inf [hPre_bias_sum_below_inf : Cert.Pre_bias_sum_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_bias_sum_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_sum_below_inf [hPre_bias_sum_below_inf : Cert.Pre_bias_sum_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_sum_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_bias_sum_below_inf [hKernelIdeal : Cert.KernelIdeal.Facts] [hPre_bias_sum_below_inf : Cert.Pre_bias_sum_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_sum_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_bias_sum_below_inf [hReferenceIdeal : Cert.ReferenceIdeal.Facts] [hPre_bias_sum_below_inf : Cert.Pre_bias_sum_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_sum_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_bias_sum_below_inf [hKernelIdeal : Cert.KernelIdeal.Facts] [hReferenceIdeal : Cert.ReferenceIdeal.Facts] [hPre_bias_sum_below_inf : Cert.Pre_bias_sum_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_sum_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_bias_sum_below_inf : Cert.Pre_bias_sum_below_inf.Facts),
    quiescent_Kernel (hKernel := hKernel)
    ∧ quiescent_KernelIdeal (hKernelIdeal := hKernelIdeal)
    ∧ quiescent_KernelIdeal_pre_bias_sum_below_inf (hKernelIdeal := hKernelIdeal) (hPre_bias_sum_below_inf := hPre_bias_sum_below_inf)
    ∧ quiescent_ReferenceIdeal (hReferenceIdeal := hReferenceIdeal)
    ∧ quiescent_ReferenceIdeal_pre_bias_sum_below_inf (hReferenceIdeal := hReferenceIdeal) (hPre_bias_sum_below_inf := hPre_bias_sum_below_inf)
    ∧ preserves_Kernel_KernelIdeal
    ∧ algebraic_KernelIdeal_ReferenceIdeal_pre_bias_sum_below_inf (hKernelIdeal := hKernelIdeal) (hReferenceIdeal := hReferenceIdeal) (hPre_bias_sum_below_inf := hPre_bias_sum_below_inf)
-- ==== Pre_bias_sum_below_inf.lean ====
abbrev S1x32768x1 : Shape := ⟨3, ![1, 32768, 1]⟩
abbrev S1x32768x256 : Shape := ⟨3, ![1, 32768, 256]⟩
abbrev S1024x1 : Shape := ⟨2, ![1024, 1]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1x32768x1 .f32) (main_arg1 : FVec F S1x32768x256 .f32) (main_arg2 : FVec F S1x32768x256 .f32) (main_arg3 : FVec F S1024x1 .f32) (main_arg4 : FVec F S1024x256 .f32) (main_arg5 : FVec F S1024 .f32) (main_arg6 : FVec F S1024 .f32) (main_arg7 : FVec F S1x256 .f32) (main_arg8 : FVec F S1 .f32) : IVec S1024 1 :=
  let main_v0 : FVec F S1024 .f32 := addf main_arg5 main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  main_v2
-- ==== Kernel.lean ====
abbrev S1x32768x1 : Shape := ⟨3, ![1, 32768, 1]⟩
abbrev S1x32768x256 : Shape := ⟨3, ![1, 32768, 256]⟩
abbrev S1024x1 : Shape := ⟨2, ![1024, 1]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S256 : Shape := ⟨1, ![256]⟩
abbrev S_ : Shape := ⟨0, ![]⟩
abbrev S512 : Shape := ⟨1, ![512]⟩
abbrev S256x1024 : Shape := ⟨2, ![256, 1024]⟩
abbrev S1x1024 : Shape := ⟨2, ![1, 1024]⟩
abbrev S128x1024 : Shape := ⟨2, ![128, 1024]⟩
abbrev S1024x2 : Shape := ⟨2, ![1024, 2]⟩
abbrev S32768x1 : Shape := ⟨2, ![32768, 1]⟩
abbrev S32768x128 : Shape := ⟨2, ![32768, 128]⟩
abbrev S32768 : Shape := ⟨1, ![32768]⟩
abbrev S32768x256 : Shape := ⟨2, ![32768, 256]⟩
abbrev S32768x24 : Shape := ⟨2, ![32768, 24]⟩
abbrev S2048x128 : Shape := ⟨2, ![2048, 128]⟩
abbrev S2048x256 : Shape := ⟨2, ![2048, 256]⟩
abbrev S2048x24 : Shape := ⟨2, ![2048, 24]⟩
abbrev S2048x1024 : Shape := ⟨2, ![2048, 1024]⟩
abbrev S1024x24 : Shape := ⟨2, ![1024, 24]⟩
abbrev S256x512 : Shape := ⟨2, ![256, 512]⟩
abbrev S1024x512 : Shape := ⟨2, ![1024, 512]⟩
abbrev S24x32768 : Shape := ⟨2, ![24, 32768]⟩
abbrev S24x32768x1 : Shape := ⟨3, ![24, 32768, 1]⟩

abbrev nBuf : Space → Nat
  | .hbm => 115
  | .vmem => 18
  | .smem => 1
  | _ => 0

abbrev bufTy : (tb : Table) → Fin (tcTables nBuf tb) → BufTy
  | .hbm, ⟨0, _⟩ => ⟨S1x32768x1, .f32⟩
  | .hbm, ⟨1, _⟩ => ⟨S1x32768x256, .f32⟩
  | .hbm, ⟨2, _⟩ => ⟨S1x32768x256, .f32⟩
  | .hbm, ⟨3, _⟩ => ⟨S1024x1, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1x256, .f32⟩
  | .hbm, ⟨8, _⟩ => ⟨S1, .f32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S1024, .i32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S512, .f32⟩
  | .hbm, ⟨29, _⟩ => ⟨S1024, .f32⟩
  | .hbm, ⟨30, _⟩ => ⟨S256x1024, .f32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S256x1024, .f32⟩
  | .hbm, ⟨40, _⟩ => ⟨S1x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .bf16⟩
  | .hbm, ⟨47, _⟩ => ⟨S1024, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024, .f32⟩
  | .hbm, ⟨57, _⟩ => ⟨S1024, .f32⟩
  | .hbm, ⟨58, _⟩ => ⟨S1024, .bf16⟩
  | .hbm, ⟨59, _⟩ => ⟨S1024, .f32⟩
  | .hbm, ⟨60, _⟩ => ⟨S_, .f32⟩
  | .hbm, ⟨61, _⟩ => ⟨S128x1024, .f32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024x1, .i32⟩
  | .hbm, ⟨73, _⟩ => ⟨S1024x1, .i32⟩
  | .hbm, ⟨74, _⟩ => ⟨S1024x2, .i32⟩
  | .hbm, ⟨75, _⟩ => ⟨S1024, .f32⟩
  | .hbm, ⟨76, _⟩ => ⟨S1024, .f32⟩
  | .hbm, ⟨77, _⟩ => ⟨S_, .i32⟩
  | .hbm, ⟨78, _⟩ => ⟨S1, .i32⟩
  | .hbm, ⟨79, _⟩ => ⟨S128x1024, .f32⟩
  | .hbm, ⟨80, _⟩ => ⟨S_, .i32⟩
  | .hbm, ⟨81, _⟩ => ⟨S1, .i32⟩
  | .hbm, ⟨82, _⟩ => ⟨S128x1024, .f32⟩
  | .hbm, ⟨83, _⟩ => ⟨S1024, .f32⟩
  | .hbm, ⟨84, _⟩ => ⟨S_, .i32⟩
  | .hbm, ⟨85, _⟩ => ⟨S1, .i32⟩
  | .hbm, ⟨86, _⟩ => ⟨S128x1024, .f32⟩
  | .hbm, ⟨87, _⟩ => ⟨S128x1024, .bf16⟩
  | .hbm, ⟨88, _⟩ => ⟨S32768x1, .f32⟩
  | .hbm, ⟨89, _⟩ => ⟨S_, .i32⟩
  | .hbm, ⟨90, _⟩ => ⟨S_, .f32⟩
  | .hbm, ⟨91, _⟩ => ⟨S32768x128, .f32⟩
  | .hbm, ⟨92, _⟩ => ⟨S_, .i32⟩
  | .hbm, ⟨93, _⟩ => ⟨S1, .i32⟩
  | .hbm, ⟨94, _⟩ => ⟨S_, .f32⟩
  | .hbm, ⟨95, _⟩ => ⟨S32768, .f32⟩
  | .hbm, ⟨96, _⟩ => ⟨S32768x128, .f32⟩
  | .hbm, ⟨97, _⟩ => ⟨S_, .i32⟩
  | .hbm, ⟨98, _⟩ => ⟨S1, .i32⟩
  | .hbm, ⟨99, _⟩ => ⟨S_, .f32⟩
  | .hbm, ⟨100, _⟩ => ⟨S32768, .f32⟩
  | .hbm, ⟨101, _⟩ => ⟨S32768x128, .f32⟩
  | .hbm, ⟨102, _⟩ => ⟨S32768x128, .bf16⟩
  | .hbm, ⟨103, _⟩ => ⟨S32768x256, .f32⟩
  | .hbm, ⟨104, _⟩ => ⟨S_, .f32⟩
  | .hbm, ⟨105, _⟩ => ⟨S32768x256, .f32⟩
  | .hbm, ⟨106, _⟩ => ⟨S32768x256, .f32⟩
  | .hbm, ⟨107, _⟩ => ⟨S32768x256, .bf16⟩
  | .hbm, ⟨108, _⟩ => ⟨S32768x256, .f32⟩
  | .hbm, ⟨109, _⟩ => ⟨S_, .f32⟩
  | .hbm, ⟨110, _⟩ => ⟨S1x256, .f32⟩
  | .hbm, ⟨111, _⟩ => ⟨S1x256, .f32⟩
  | .hbm, ⟨112, _⟩ => ⟨S32768x24, .f32⟩
  | .hbm, ⟨113, _⟩ => ⟨S24x32768, .f32⟩
  | .hbm, ⟨114, _⟩ => ⟨S24x32768x1, .f32⟩
  | .local _ .vmem, ⟨0, _⟩ => ⟨S2048x128, .bf16⟩
  | .local _ .vmem, ⟨1, _⟩ => ⟨S2048x128, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S256x1024, .bf16⟩
  | .local _ .vmem, ⟨7, _⟩ => ⟨S128x1024, .bf16⟩
  | .local _ .vmem, ⟨8, _⟩ => ⟨S1x256, .f32⟩
  | .local _ .vmem, ⟨9, _⟩ => ⟨S2048x24, .f32⟩
  | .local _ .vmem, ⟨10, _⟩ => ⟨S2048x24, .f32⟩
  | .local _ .vmem, ⟨11, _⟩ => ⟨S2048x1024, .f32⟩
  | .local _ .vmem, ⟨12, _⟩ => ⟨S1024x256, .bf16⟩
  | .local _ .vmem, ⟨13, _⟩ => ⟨S1024x256, .bf16⟩
  | .local _ .vmem, ⟨14, _⟩ => ⟨S1024x256, .f32⟩
  | .local _ .vmem, ⟨15, _⟩ => ⟨S1024x256, .f32⟩
  | .local _ .vmem, ⟨16, _⟩ => ⟨S1024x24, .f32⟩
  | .local _ .vmem, ⟨17, _⟩ => ⟨S1024x24, .f32⟩
  | .local _ .smem, ⟨0, _⟩ => ⟨S1, .f32⟩
  | _, _ => ⟨S1x32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_15 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_call0_v0 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_cst_18 : Ref sig .tc := ⟨.hbm, 94, rfl⟩
abbrev main_v64 : Ref sig .tc := ⟨.hbm, 95, rfl⟩
abbrev main_v65 : Ref sig .tc := ⟨.hbm, 96, rfl⟩
abbrev main_c_19 : Ref sig .tc := ⟨.hbm, 97, rfl⟩
abbrev main_v66 : Ref sig .tc := ⟨.hbm, 98, rfl⟩
abbrev main_cst_20 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_21 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_22 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v32 : BitVec 32 := Scalar.addi c0_i32 c2_i32
  let c1_i32 : BitVec 32 := 1#32
  ⟨c0_i32, v32, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x24 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x32768x1 : Shape := ⟨3, ![1, 32768, 1]⟩
abbrev S1x32768x256 : Shape := ⟨3, ![1, 32768, 256]⟩
abbrev S1024x1 : Shape := ⟨2, ![1024, 1]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S32768x1 : Shape := ⟨2, ![32768, 1]⟩
abbrev S32768x256 : Shape := ⟨2, ![32768, 256]⟩
abbrev S1x1024 : Shape := ⟨2, ![1, 1024]⟩
abbrev S32768x1024 : Shape := ⟨2, ![32768, 1024]⟩
abbrev S_ : Shape := ⟨0, ![]⟩
abbrev S24x32768x1 : Shape := ⟨3, ![24, 32768, 1]⟩
abbrev S256x1024 : Shape := ⟨2, ![256, 1024]⟩
abbrev S256x1 : Shape := ⟨2, ![256, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S1x32768x1, .f32⟩
  | .hbm, ⟨1, _⟩ => ⟨S1x32768x256, .f32⟩
  | .hbm, ⟨2, _⟩ => ⟨S1x32768x256, .f32⟩
  | .hbm, ⟨3, _⟩ => ⟨S1024x1, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1x256, .f32⟩
  | .hbm, ⟨8, _⟩ => ⟨S1, .f32⟩
  | .hbm, ⟨9, _⟩ => ⟨S32768x1, .f32⟩
  | .hbm, ⟨10, _⟩ => ⟨S32768x256, .f32⟩
  | .hbm, ⟨11, _⟩ => ⟨S32768x256, .f32⟩
  | .hbm, ⟨12, _⟩ => ⟨S1x1024, .f32⟩
  | .hbm, ⟨13, _⟩ => ⟨S32768x1024, .f32⟩
  | .hbm, ⟨14, _⟩ => ⟨S1x1024, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S24x32768x1, .f32⟩
  | .hbm, ⟨22, _⟩ => ⟨S_, .i32⟩
  | .hbm, ⟨23, _⟩ => ⟨S1024x256, .f32⟩
  | .hbm, ⟨24, _⟩ => ⟨S32768x1024, .f32⟩
  | .hbm, ⟨25, _⟩ => ⟨S1x256, .f32⟩
  | .hbm, ⟨26, _⟩ => ⟨S1, .f32⟩
  | .hbm, ⟨27, _⟩ => ⟨S_, .i32⟩
  | .hbm, ⟨28, _⟩ => ⟨S32768x256, .f32⟩
  | .hbm, ⟨29, _⟩ => ⟨S32768x256, .f32⟩
  | .hbm, ⟨30, _⟩ => ⟨S24x32768x1, .f32⟩
  | .hbm, ⟨31, _⟩ => ⟨S_, .i32⟩
  | .hbm, ⟨32, _⟩ => ⟨S_, .i1⟩
  | .hbm, ⟨33, _⟩ => ⟨S256x1024, .f32⟩
  | .hbm, ⟨34, _⟩ => ⟨S32768x1024, .f32⟩
  | .hbm, ⟨35, _⟩ => ⟨S32768x1024, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S_, .f32⟩
  | .hbm, ⟨40, _⟩ => ⟨S32768x256, .f32⟩
  | .hbm, ⟨41, _⟩ => ⟨S32768x256, .f32⟩
  | .hbm, ⟨42, _⟩ => ⟨S_, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S_, .f32⟩
  | .hbm, ⟨49, _⟩ => ⟨S32768x256, .f32⟩
  | .hbm, ⟨50, _⟩ => ⟨S32768x256, .f32⟩
  | .hbm, ⟨51, _⟩ => ⟨S_, .f32⟩
  | .hbm, ⟨52, _⟩ => ⟨S32768x256, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x256, .f32⟩
  | .hbm, ⟨58, _⟩ => ⟨S32768x256, .f32⟩
  | .hbm, ⟨59, _⟩ => ⟨S_, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S32768x256, .f32⟩
  | .hbm, ⟨67, _⟩ => ⟨S32768x256, .f32⟩
  | .hbm, ⟨68, _⟩ => ⟨S32768x256, .f32⟩
  | .hbm, ⟨69, _⟩ => ⟨S32768x256, .f32⟩
  | .hbm, ⟨70, _⟩ => ⟨S256x1, .f32⟩
  | .hbm, ⟨71, _⟩ => ⟨S32768x1, .f32⟩
  | .hbm, ⟨72, _⟩ => ⟨S1x1, .f32⟩
  | .hbm, ⟨73, _⟩ => ⟨S32768x1, .f32⟩
  | .hbm, ⟨74, _⟩ => ⟨S32768x1, .f32⟩
  | .hbm, ⟨75, _⟩ => ⟨S1x32768x1, .f32⟩
  | .hbm, ⟨76, _⟩ => ⟨S_, .i32⟩
  | .hbm, ⟨77, _⟩ => ⟨S_, .i32⟩
  | .hbm, ⟨78, _⟩ => ⟨S24x32768x1, .f32⟩
  | .hbm, ⟨79, _⟩ => ⟨S_, .i32⟩
  | .hbm, ⟨80, _⟩ => ⟨S_, .i32⟩
  | _, _ => ⟨S1x32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v12_7 : Ref sig .tc := ⟨.hbm, 30, rfl⟩
abbrev main_while0c_c_7 : Ref sig .tc := ⟨.hbm, 31, rfl⟩
abbrev main_while0c_v13 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_cst_7 : Ref sig .tc := ⟨.hbm, 39, rfl⟩
abbrev main_while0b_v19 : Ref sig .tc := ⟨.hbm, 40, rfl⟩
abbrev main_while0b_v20 : Ref sig .tc := ⟨.hbm, 41, rfl⟩
abbrev main_while0b_cst_8 : Ref sig .tc := ⟨.hbm, 42, rfl⟩
abbrev main_while0b_v21 : Ref sig .tc := ⟨.hbm, 43, rfl⟩
abbrev main_while0b_v22 : Ref sig .tc := ⟨.hbm, 44, rfl⟩
abbrev main_while0b_v23 : Ref sig .tc := ⟨.hbm, 45, rfl⟩
abbrev main_while0b_v24 : Ref sig .tc := ⟨.hbm, 46, rfl⟩
abbrev main_while0b_v25 : Ref sig .tc := ⟨.hbm, 47, rfl⟩
abbrev main_while0b_cst_9 : Ref sig .tc := ⟨.hbm, 48, rfl⟩
abbrev main_while0b_v26 : Ref sig .tc := ⟨.hbm, 49, rfl⟩
abbrev main_while0b_v27 : Ref sig .tc := ⟨.hbm, 50, rfl⟩
abbrev main_while0b_cst_10 : Ref sig .tc := ⟨.hbm, 51, rfl⟩
abbrev main_while0b_v28 : Ref sig .tc := ⟨.hbm, 52, rfl⟩
abbrev main_while0b_v29 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_cst_11 : Ref sig .tc := ⟨.hbm, 59, rfl⟩
abbrev main_while0b_v35 : Ref sig .tc := ⟨.hbm, 60, rfl⟩
abbrev main_while0b_v36 : Ref sig .tc := ⟨.hbm, 61, rfl⟩
abbrev main_while0b_cst_12 : Ref sig .tc := ⟨.hbm, 62, rfl⟩
abbrev main_while0b_v37 : Ref sig .tc := ⟨.hbm, 63, rfl⟩
abbrev main_while0b_v38 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_call0_v0 : Ref sig .tc := ⟨.hbm, 75, rfl⟩
abbrev main_while0b_call0_c : Ref sig .tc := ⟨.hbm, 76, rfl⟩
abbrev main_while0b_call0_c_0 : Ref sig .tc := ⟨.hbm, 77, rfl⟩
abbrev main_while0b_v49 : Ref sig .tc := ⟨.hbm, 78, rfl⟩
abbrev main_while0b_c_13 : Ref sig .tc := ⟨.hbm, 79, rfl⟩
abbrev main_while0b_v50 : Ref sig .tc := ⟨.hbm, 80, rfl⟩

abbrev nD : Nat := 1
abbrev τ : Topo := Topo.v7x

variable {F : FTy → Type} [FloatOps F]

abbrev main_while0_count : Scf.Loop 32 := ⟨0#32, 24#32, 1#32⟩
-- ==== Proof.Trip.lean ====
module

public import proofs.«01_k».proof.Proof.Gen.KernelIdeal.Loops
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proofs: the pipeline needs no ghost state of its own. -/
abbrev UU (nD : Nat) (τ : Topo) : Type := UR sig nD τ
/-- No loop of the program carries a variant of its own. -/
abbrev 𝒱₀ : Variants := Variants.none
local notation "𝕄" => MT nD τ sig Unit (Elt F) ℕ (UU nD τ) ℕ

/-- A memref's contents on core `c`. -/
abbrev Bf (c : Dev nD) {sp : Space} {S : Shape} {e : EltTy} (M : Memref sig .tc sp S e) : Type := Buf (Elt F) (M.view.loc (c : Thread nD τ))
/-- The memref held whole at `f`. -/
abbrev pt (c : Dev nD) {sp : Space} {S : Shape} {e : EltTy} (M : Memref sig .tc sp S e) (f : Bf (F := F) c M) : sProp 𝕄 :=
  M.view.loc (c : Thread nD τ) ↦{fullShare} f

set_option sl_exec.resultNames true in
/-- One trip of the loop: the contents that it leaves in the scratch buffers, found by running it, with the proof that it
    leaves them and reads the weights and the input gates alone. -/
noncomputable def trip (c : Dev nD) (i : grid0.Coords) (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole) (v28 : Vec F S1x256 .f32) (v30 : Elt F .f32) (v31 : IVec S1024x24 32) (k : Fin k0_t1_loop.trips)
    (f4 : Bf (F := F) c arg4) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15) :
    { W : Bf (F := F) c arg10 × Bf (F := F) c arg11 × Bf (F := F) c arg12 × Bf (F := F) c arg13 × Bf (F := F) c arg14 × Bf (F := F) c arg15 //
      iprop(pt c arg4 f4 ∗ pt c arg9 f9 ∗ pt c arg10 f10 ∗ pt c arg11 f11 ∗ pt c arg12 f12 ∗ pt c arg13 f13 ∗ pt c arg14 f14 ∗ pt c arg15 f15)
        ⊢ wp frame (wpE (defs₀ (F := F)) 𝒱₀ c none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k ())
          (fun _ => iprop(pt c arg4 f4 ∗ pt c arg9 f9 ∗ pt c arg10 W.1 ∗ pt c arg11 W.2.1 ∗ pt c arg12 W.2.2.1 ∗ pt c arg13 W.2.2.2.1 ∗ pt c arg14 W.2.2.2.2.1 ∗ pt c arg15 W.2.2.2.2.2)) } := by
  refine ⟨⟨?_, ?_, ?_, ?_, ?_, ?_⟩, ?run⟩
  case run =>
    unfold k0_t1_body
    iintro ⟨H4, H9, H10, H11, H12, H13, H14, H15⟩
    sl_exec_parts
    sl_step
    sl_close

end Cert.Proof.KernelIdeal

end
-- ==== Proof.Step.lean ====
module

public import proofs.«01_k».proof.Proof.Gen.KernelIdeal.Skeleton

@[expose] public section

noncomputable section

namespace Cert.Proof.KernelIdeal

open Cert.KernelIdeal Cert.KernelIdeal.Gen
open Idealize.ShloMosaic

variable {F : FTy → Type} [FloatOps F]

/-- What one row chunk reads at every step: the two halves of the recurrent weights and of its input gates. -/
structure Chunk (F : FTy → Type) [FloatOps F] where
  w1 : Vec F S256x512 .bf16
  w2 : Vec F S256x512 .bf16
  x1 : Vec F S1024x512 .f32
  x2 : Vec F S1024x512 .f32

/-- The next cell state of a chunk. -/
def stepC (g : Chunk F) (h : Vec F S1024x256 .bf16) (c : Vec F S1024x256 .f32) : Vec F S1024x256 .f32 := k0_pay3 h c g.w1 g.x1 g.w2 g.x2

/-- The next doubled hidden state of a chunk. -/
def stepH (g : Chunk F) (h : Vec F S1024x256 .bf16) (c : Vec F S1024x256 .f32) : Vec F S1024x256 .bf16 := k0_pay7 (stepC g h c) (k0_pay4 h g.w2 g.x2)

/-- The two states of a chunk after `n` steps from `h` and `c`. -/
def st (g : Chunk F) (h : Vec F S1024x256 .bf16) (c : Vec F S1024x256 .f32) : ℕ → Vec F S1024x256 .bf16 × Vec F S1024x256 .f32
  | 0 => (h, c)
  | n + 1 => (stepH g (st g h c n).1 (st g h c n).2, stepC g (st g h c n).1 (st g h c n).2)

/-- The accumulator after one more step: the lane named by the step's word takes the step's output. -/
def stepA (g : Chunk F) (fc : Vec F S1x256 .f32) (fcb : Elt F .f32) (lane : IVec S1024x24 32) (wd : BitVec 32)
    (p : Vec F S1024x256 .bf16 × Vec F S1024x256 .f32) (a : Vec F S1024x24 .f32) : Vec F S1024x24 .f32 :=
  k0_pay6 (k0_pay1 fc) fcb lane wd (stepC g p.1 p.2) (k0_pay4 p.1 g.w2 g.x2) a

/-- The accumulator after `n` steps, the first of which has the word `wd + 0`. -/
def acc (g : Chunk F) (fc : Vec F S1x256 .f32) (fcb : Elt F .f32) (lane : IVec S1024x24 32) (wd : BitVec 32)
    (h : Vec F S1024x256 .bf16) (c : Vec F S1024x256 .f32) (a : Vec F S1024x24 .f32) : ℕ → Vec F S1024x24 .f32
  | 0 => a
  | n + 1 => stepA g fc fcb lane (Scalar.addi wd (BitVec.ofNat 32 n)) (st g h c n) (acc g fc fcb lane wd h c a n)

end Cert.Proof.KernelIdeal

end
-- ==== Proof.TripValue.lean ====
module

public import proofs.«01_k».proof.Proof.Trip
public import proofs.«01_k».proof.Proof.Step
public import Idealize.ShloMosaic.Lib.Pipeline.Value
public import Idealize.ShloMosaic.Lib.VecWindow

@[expose] public section

noncomputable section

namespace Cert.Proof.KernelIdeal

open Cert.KernelIdeal Cert.KernelIdeal.Gen
open Idealize.ShloMosaic Idealize.ShloMosaic.TcCoe

variable {F : FTy → Type} [FloatOps F]

/-- The load of the whole of a memref's shape. -/
abbrev rdW {S : Shape} {sp : Space} {e : EltTy} (c : Dev nD) (M : Memref sig .tc sp S e) {s : Fin S.rank → ℕ} (off : Fin S.rank → ℕ) (inb : ∀ a, off a + s a ≤ S.size a) (f : Bf (F := F) c M) :=
  View.readAt (Elt F) M.view (Rect.unit (s := S) off s inb).toLoadRect f

/-- The first chunk of rows: the weights and the first 1024 rows of the input gates. -/
def chunkA (c : Dev nD) (arg4 : Memref sig .tc .vmem S256x1024 .bf16) (arg9 : Memref sig .tc .vmem S2048x1024 .f32) (f4 : Bf (F := F) c arg4) (f9 : Bf (F := F) c arg9) : Chunk F :=
  ⟨rdW c arg4 ![0, 0] inb_S256x1024_S256x512_0_0 f4, rdW c arg4 ![0, 512] inb_S256x1024_S256x512_0_512 f4,
   rdW c arg9 ![0, 0] inb_S2048x1024_S1024x512_0_0 f9, rdW c arg9 ![0, 512] inb_S2048x1024_S1024x512_0_512 f9⟩

/-- The second chunk of rows: the weights and the last 1024 rows of the input gates. -/
def chunkB (c : Dev nD) (arg4 : Memref sig .tc .vmem S256x1024 .bf16) (arg9 : Memref sig .tc .vmem S2048x1024 .f32) (f4 : Bf (F := F) c arg4) (f9 : Bf (F := F) c arg9) : Chunk F :=
  ⟨rdW c arg4 ![0, 0] inb_S256x1024_S256x512_0_0 f4, rdW c arg4 ![0, 512] inb_S256x1024_S256x512_0_512 f4,
   rdW c arg9 ![1024, 0] inb_S2048x1024_S1024x512_1024_0 f9, rdW c arg9 ![1024, 512] inb_S2048x1024_S1024x512_1024_512 f9⟩

/-- One more step of the states, from their value before it. -/
theorem st_next {g : Chunk F} {h c n p q} (e : st g h c n = p) (eq : (stepH g p.1 p.2, stepC g p.1 p.2) = q) : st g h c (n + 1) = q := by
  rw [st, e, eq]

/-- One more step of the accumulator, from its value and the states' before it. -/
theorem acc_next {g : Chunk F} {fc fcb lane wd h c a n p x b} (e : st g h c n = p) (ea : acc g fc fcb lane wd h c a n = x)
    (eq : stepA g fc fcb lane (Scalar.addi wd (BitVec.ofNat 32 n)) p x = b) : acc g fc fcb lane wd h c a (n + 1) = b := by
  rw [acc, e, ea, eq]

set_option maxHeartbeats 8000000 in
/-- What one trip leaves in the six buffers, as the list of its stores. -/
theorem trip_val (c : Dev nD) (i : grid0.Coords) (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole) (v28 : Vec F S1x256 .f32) (v30 : Elt F .f32) (v31 : IVec S1024x24 32) (k : Fin k0_t1_loop.trips)
    (f4 : Bf (F := F) c arg4) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15) :
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1 =
      (arg10.view.writes (Elt F) f10 [⟨Rect.unit ![0, 0] S1024x256.size inb_S1024x256_S1024x256_0_0, k0_pay161 (trip.sl.v1167 c arg4 arg9 arg10 arg12 f4 f9 f10 f12)⟩]
      , arg11.view.writes (Elt F) f11 [⟨Rect.unit ![0, 0] S1024x256.size inb_S1024x256_S1024x256_0_0, k0_pay163 (trip.sl.v1096 c arg4 arg9 arg11 arg13 f4 f9 f11 f13) (trip.sl.v1181 c arg4 arg9 arg11 arg13 f4 f9 f11 f13) (trip.sl.v1186 c arg4 arg9 arg11 arg13 f4 f9 f11 f13) (trip.sl.v1188 c arg4 arg9 arg11 arg13 f4 f9 f11 f13)⟩]
      , arg12.view.writes (Elt F) f12 [⟨Rect.unit ![0, 0] S1024x256.size inb_S1024x256_S1024x256_0_0, k0_pay162 (trip.sl.v1145 c arg4 arg9 arg10 arg12 f4 f9 f10 f12)⟩]
      , arg13.view.writes (Elt F) f13 [⟨Rect.unit ![0, 0] S1024x256.size inb_S1024x256_S1024x256_0_0, trip.sl.v1228 c arg4 arg9 arg11 arg13 f4 f9 f11 f13⟩]
      , arg14.view.writes (Elt F) f14 (⟨Rect.unit ![0, 0] S1024x24.size inb_S1024x24_S1024x24_0_0, k0_pay153 (k0_pay1 v28) v30 v31 (trip.sl.v1120 k) (trip.sl.v1145 c arg4 arg9 arg10 arg12 f4 f9 f10 f12) (trip.sl.v1147 c arg4 arg9 arg10 arg12 f4 f9 f10 f12) trip.sl.cst_211 (trip.sl.v1160 c arg4 arg9 arg10 arg12 arg14 v28 v30 v31 k f4 f9 f10 f12 f14)⟩ :: trip.sl.H14_11 c arg4 arg9 arg10 arg12 arg14 v28 v30 v31 k f4 f9 f10 f12 f14)
      , arg15.view.writes (Elt F) f15 (⟨Rect.unit ![0, 0] S1024x24.size inb_S1024x24_S1024x24_0_0, k0_pay160 (k0_pay1 v28) v30 v31 (trip.sl.v1096 c arg4 arg9 arg11 arg13 f4 f9 f11 f13) (trip.sl.v1120 k) (trip.sl.v1181 c arg4 arg9 arg11 arg13 f4 f9 f11 f13) (trip.sl.v1186 c arg4 arg9 arg11 arg13 f4 f9 f11 f13) (trip.sl.v1188 c arg4 arg9 arg11 arg13 f4 f9 f11 f13) (trip.sl.v1209 c arg4 arg9 arg11 arg13 arg15 v28 v30 v31 k f4 f9 f11 f13 f15)⟩ :: trip.sl.H15_11 c arg4 arg9 arg11 arg13 arg15 v28 v30 v31 k f4 f9 f11 f13 f15)) := rfl

set_option maxHeartbeats 8000000 in
/-- What one trip leaves in the first chunk's buffers: twelve steps. -/
theorem trip_A (c : Dev nD) (i : grid0.Coords) (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole) (v28 : Vec F S1x256 .f32) (v30 : Elt F .f32) (v31 : IVec S1024x24 32) (k : Fin k0_t1_loop.trips)
    (f4 : Bf (F := F) c arg4) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15) :
    st (chunkA c arg4 arg9 f4 f9) (rdW c arg10 ![0, 0] inb_S1024x256_S1024x256_0_0 f10) (rdW c arg12 ![0, 0] inb_S1024x256_S1024x256_0_0 f12) 12 = (rdW c arg10 ![0, 0] inb_S1024x256_S1024x256_0_0 (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1.1, rdW c arg12 ![0, 0] inb_S1024x256_S1024x256_0_0 (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1.2.2.1)
    ∧ acc (chunkA c arg4 arg9 f4 f9) v28 v30 v31 (Scalar.muli 12#32 (Scf.iv 0#32 1#32 k)) (rdW c arg10 ![0, 0] inb_S1024x256_S1024x256_0_0 f10) (rdW c arg12 ![0, 0] inb_S1024x256_S1024x256_0_0 f12) (rdW c arg14 ![0, 0] inb_S1024x24_S1024x24_0_0 f14) 12 = rdW c arg14 ![0, 0] inb_S1024x24_S1024x24_0_0 (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1.2.2.2.2.1 := by
  have e0 : st (chunkA c arg4 arg9 f4 f9) (rdW c arg10 ![0, 0] inb_S1024x256_S1024x256_0_0 f10) (rdW c arg12 ![0, 0] inb_S1024x256_S1024x256_0_0 f12) 0 = ((rdW c arg10 ![0, 0] inb_S1024x256_S1024x256_0_0 f10), (rdW c arg12 ![0, 0] inb_S1024x256_S1024x256_0_0 f12)) := rfl
  have e1 := st_next e0 (q := (trip.sl.v89 c arg4 arg9 arg10 arg12 f4 f9 f10 f12, trip.sl.v67 c arg4 arg9 arg10 arg12 f4 f9 f10 f12)) rfl
  have e2 := st_next e1 (q := (trip.sl.v187 c arg4 arg9 arg10 arg12 f4 f9 f10 f12, trip.sl.v165 c arg4 arg9 arg10 arg12 f4 f9 f10 f12)) rfl
  have e3 := st_next e2 (q := (trip.sl.v285 c arg4 arg9 arg10 arg12 f4 f9 f10 f12, trip.sl.v263 c arg4 arg9 arg10 arg12 f4 f9 f10 f12)) rfl
  have e4 := st_next e3 (q := (trip.sl.v383 c arg4 arg9 arg10 arg12 f4 f9 f10 f12, trip.sl.v361 c arg4 arg9 arg10 arg12 f4 f9 f10 f12)) rfl
  have e5 := st_next e4 (q := (trip.sl.v481 c arg4 arg9 arg10 arg12 f4 f9 f10 f12, trip.sl.v459 c arg4 arg9 arg10 arg12 f4 f9 f10 f12)) rfl
  have e6 := st_next e5 (q := (trip.sl.v579 c arg4 arg9 arg10 arg12 f4 f9 f10 f12, trip.sl.v557 c arg4 arg9 arg10 arg12 f4 f9 f10 f12)) rfl
  have e7 := st_next e6 (q := (trip.sl.v677 c arg4 arg9 arg10 arg12 f4 f9 f10 f12, trip.sl.v655 c arg4 arg9 arg10 arg12 f4 f9 f10 f12)) rfl
  have e8 := st_next e7 (q := (trip.sl.v775 c arg4 arg9 arg10 arg12 f4 f9 f10 f12, trip.sl.v753 c arg4 arg9 arg10 arg12 f4 f9 f10 f12)) rfl
  have e9 := st_next e8 (q := (trip.sl.v873 c arg4 arg9 arg10 arg12 f4 f9 f10 f12, trip.sl.v851 c arg4 arg9 arg10 arg12 f4 f9 f10 f12)) rfl
  have e10 := st_next e9 (q := (trip.sl.v971 c arg4 arg9 arg10 arg12 f4 f9 f10 f12, trip.sl.v949 c arg4 arg9 arg10 arg12 f4 f9 f10 f12)) rfl
  have e11 := st_next e10 (q := (trip.sl.v1069 c arg4 arg9 arg10 arg12 f4 f9 f10 f12, trip.sl.v1047 c arg4 arg9 arg10 arg12 f4 f9 f10 f12)) rfl
  have a0 : acc (chunkA c arg4 arg9 f4 f9) v28 v30 v31 (Scalar.muli 12#32 (Scf.iv 0#32 1#32 k)) (rdW c arg10 ![0, 0] inb_S1024x256_S1024x256_0_0 f10) (rdW c arg12 ![0, 0] inb_S1024x256_S1024x256_0_0 f12) (rdW c arg14 ![0, 0] inb_S1024x24_S1024x24_0_0 f14) 0 = (rdW c arg14 ![0, 0] inb_S1024x24_S1024x24_0_0 f14) := rfl
  have a1 := acc_next e0 a0 (b := trip.sl.v180 c arg4 arg9 arg10 arg12 arg14 v28 v30 v31 k f4 f9 f10 f12 f14) (View.readCov_full arg14.view inb_S1024x24_S1024x24_0_0 inb_S1024x24_S1024x24_0_0 _ _).symm
  have a2 := acc_next e1 a1 (b := trip.sl.v278 c arg4 arg9 arg10 arg12 arg14 v28 v30 v31 k f4 f9 f10 f12 f14) (View.readCov_full arg14.view inb_S1024x24_S1024x24_0_0 inb_S1024x24_S1024x24_0_0 _ _).symm
  have a3 := acc_next e2 a2 (b := trip.sl.v376 c arg4 arg9 arg10 arg12 arg14 v28 v30 v31 k f4 f9 f10 f12 f14) (View.readCov_full arg14.view inb_S1024x24_S1024x24_0_0 inb_S1024x24_S1024x24_0_0 _ _).symm
  have a4 := acc_next e3 a3 (b := trip.sl.v474 c arg4 arg9 arg10 arg12 arg14 v28 v30 v31 k f4 f9 f10 f12 f14) (View.readCov_full arg14.view inb_S1024x24_S1024x24_0_0 inb_S1024x24_S1024x24_0_0 _ _).symm
  have a5 := acc_next e4 a4 (b := trip.sl.v572 c arg4 arg9 arg10 arg12 arg14 v28 v30 v31 k f4 f9 f10 f12 f14) (View.readCov_full arg14.view inb_S1024x24_S1024x24_0_0 inb_S1024x24_S1024x24_0_0 _ _).symm
  have a6 := acc_next e5 a5 (b := trip.sl.v670 c arg4 arg9 arg10 arg12 arg14 v28 v30 v31 k f4 f9 f10 f12 f14) (View.readCov_full arg14.view inb_S1024x24_S1024x24_0_0 inb_S1024x24_S1024x24_0_0 _ _).symm
  have a7 := acc_next e6 a6 (b := trip.sl.v768 c arg4 arg9 arg10 arg12 arg14 v28 v30 v31 k f4 f9 f10 f12 f14) (View.readCov_full arg14.view inb_S1024x24_S1024x24_0_0 inb_S1024x24_S1024x24_0_0 _ _).symm
  have a8 := acc_next e7 a7 (b := trip.sl.v866 c arg4 arg9 arg10 arg12 arg14 v28 v30 v31 k f4 f9 f10 f12 f14) (View.readCov_full arg14.view inb_S1024x24_S1024x24_0_0 inb_S1024x24_S1024x24_0_0 _ _).symm
  have a9 := acc_next e8 a8 (b := trip.sl.v964 c arg4 arg9 arg10 arg12 arg14 v28 v30 v31 k f4 f9 f10 f12 f14) (View.readCov_full arg14.view inb_S1024x24_S1024x24_0_0 inb_S1024x24_S1024x24_0_0 _ _).symm
  have a10 := acc_next e9 a9 (b := trip.sl.v1062 c arg4 arg9 arg10 arg12 arg14 v28 v30 v31 k f4 f9 f10 f12 f14) (View.readCov_full arg14.view inb_S1024x24_S1024x24_0_0 inb_S1024x24_S1024x24_0_0 _ _).symm
  have a11 := acc_next e10 a10 (b := trip.sl.v1160 c arg4 arg9 arg10 arg12 arg14 v28 v30 v31 k f4 f9 f10 f12 f14) (View.readCov_full arg14.view inb_S1024x24_S1024x24_0_0 inb_S1024x24_S1024x24_0_0 _ _).symm
  have e12 := st_next e11 (q := (trip.sl.v1167 c arg4 arg9 arg10 arg12 f4 f9 f10 f12, trip.sl.v1145 c arg4 arg9 arg10 arg12 f4 f9 f10 f12)) rfl
  have a12 := acc_next e11 a11 (b := k0_pay153 (k0_pay1 v28) v30 v31 (trip.sl.v1120 k) (trip.sl.v1145 c arg4 arg9 arg10 arg12 f4 f9 f10 f12) (trip.sl.v1147 c arg4 arg9 arg10 arg12 f4 f9 f10 f12) trip.sl.cst_211 (trip.sl.v1160 c arg4 arg9 arg10 arg12 arg14 v28 v30 v31 k f4 f9 f10 f12 f14)) rfl
  rw [trip_val]
  exact ⟨e12.trans (Prod.ext ((View.readAt_writes_full arg10.view f10 inb_S1024x256_S1024x256_0_0 inb_S1024x256_S1024x256_0_0 _ []).trans (shapeCast_self (s := S1024x256) _ _)).symm
      ((View.readAt_writes_full arg12.view f12 inb_S1024x256_S1024x256_0_0 inb_S1024x256_S1024x256_0_0 _ []).trans (shapeCast_self (s := S1024x256) _ _)).symm),
    a12.trans (View.readAt_writes_full arg14.view f14 inb_S1024x24_S1024x24_0_0 inb_S1024x24_S1024x24_0_0 _ _).symm⟩

set_option maxHeartbeats 8000000 in
/-- What one trip leaves in the second chunk's buffers: twelve steps. -/
theorem trip_B (c : Dev nD) (i : grid0.Coords) (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole) (v28 : Vec F S1x256 .f32) (v30 : Elt F .f32) (v31 : IVec S1024x24 32) (k : Fin k0_t1_loop.trips)
    (f4 : Bf (F := F) c arg4) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15) :
    st (chunkB c arg4 arg9 f4 f9) (rdW c arg11 ![0, 0] inb_S1024x256_S1024x256_0_0 f11) (rdW c arg13 ![0, 0] inb_S1024x256_S1024x256_0_0 f13) 12 = (rdW c arg11 ![0, 0] inb_S1024x256_S1024x256_0_0 (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1.2.1, rdW c arg13 ![0, 0] inb_S1024x256_S1024x256_0_0 (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1.2.2.2.1)
    ∧ acc (chunkB c arg4 arg9 f4 f9) v28 v30 v31 (Scalar.muli 12#32 (Scf.iv 0#32 1#32 k)) (rdW c arg11 ![0, 0] inb_S1024x256_S1024x256_0_0 f11) (rdW c arg13 ![0, 0] inb_S1024x256_S1024x256_0_0 f13) (rdW c arg15 ![0, 0] inb_S1024x24_S1024x24_0_0 f15) 12 = rdW c arg15 ![0, 0] inb_S1024x24_S1024x24_0_0 (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 f10 f11 f12 f13 f14 f15).1.2.2.2.2.2 := by
  have e0 : st (chunkB c arg4 arg9 f4 f9) (rdW c arg11 ![0, 0] inb_S1024x256_S1024x256_0_0 f11) (rdW c arg13 ![0, 0] inb_S1024x256_S1024x256_0_0 f13) 0 = ((rdW c arg11 ![0, 0] inb_S1024x256_S1024x256_0_0 f11), (rdW c arg13 ![0, 0] inb_S1024x256_S1024x256_0_0 f13)) := rfl
  have e1 := st_next e0 (q := (trip.sl.v138 c arg4 arg9 arg11 arg13 f4 f9 f11 f13, trip.sl.v116 c arg4 arg9 arg11 arg13 f4 f9 f11 f13)) rfl
  have e2 := st_next e1 (q := (trip.sl.v236 c arg4 arg9 arg11 arg13 f4 f9 f11 f13, trip.sl.v214 c arg4 arg9 arg11 arg13 f4 f9 f11 f13)) rfl
  have e3 := st_next e2 (q := (trip.sl.v334 c arg4 arg9 arg11 arg13 f4 f9 f11 f13, trip.sl.v312 c arg4 arg9 arg11 arg13 f4 f9 f11 f13)) rfl
  have e4 := st_next e3 (q := (trip.sl.v432 c arg4 arg9 arg11 arg13 f4 f9 f11 f13, trip.sl.v410 c arg4 arg9 arg11 arg13 f4 f9 f11 f13)) rfl
  have e5 := st_next e4 (q := (trip.sl.v530 c arg4 arg9 arg11 arg13 f4 f9 f11 f13, trip.sl.v508 c arg4 arg9 arg11 arg13 f4 f9 f11 f13)) rfl
  have e6 := st_next e5 (q := (trip.sl.v628 c arg4 arg9 arg11 arg13 f4 f9 f11 f13, trip.sl.v606 c arg4 arg9 arg11 arg13 f4 f9 f11 f13)) rfl
  have e7 := st_next e6 (q := (trip.sl.v726 c arg4 arg9 arg11 arg13 f4 f9 f11 f13, trip.sl.v704 c arg4 arg9 arg11 arg13 f4 f9 f11 f13)) rfl
  have e8 := st_next e7 (q := (trip.sl.v824 c arg4 arg9 arg11 arg13 f4 f9 f11 f13, trip.sl.v802 c arg4 arg9 arg11 arg13 f4 f9 f11 f13)) rfl
  have e9 := st_next e8 (q := (trip.sl.v922 c arg4 arg9 arg11 arg13 f4 f9 f11 f13, trip.sl.v900 c arg4 arg9 arg11 arg13 f4 f9 f11 f13)) rfl
  have e10 := st_next e9 (q := (trip.sl.v1020 c arg4 arg9 arg11 arg13 f4 f9 f11 f13, trip.sl.v998 c arg4 arg9 arg11 arg13 f4 f9 f11 f13)) rfl
  have e11 := st_next e10 (q := (trip.sl.v1118 c arg4 arg9 arg11 arg13 f4 f9 f11 f13, trip.sl.v1096 c arg4 arg9 arg11 arg13 f4 f9 f11 f13)) rfl
  have a0 : acc (chunkB c arg4 arg9 f4 f9) v28 v30 v31 (Scalar.muli 12#32 (Scf.iv 0#32 1#32 k)) (rdW c arg11 ![0, 0] inb_S1024x256_S1024x256_0_0 f11) (rdW c arg13 ![0, 0] inb_S1024x256_S1024x256_0_0 f13) (rdW c arg15 ![0, 0] inb_S1024x24_S1024x24_0_0 f15) 0 = (rdW c arg15 ![0, 0] inb_S1024x24_S1024x24_0_0 f15) := rfl
  have a1 := acc_next e0 a0 (b := trip.sl.v229 c arg4 arg9 arg11 arg13 arg15 v28 v30 v31 k f4 f9 f11 f13 f15) (View.readCov_full arg15.view inb_S1024x24_S1024x24_0_0 inb_S1024x24_S1024x24_0_0 _ _).symm
  have a2 := acc_next e1 a1 (b := trip.sl.v327 c arg4 arg9 arg11 arg13 arg15 v28 v30 v31 k f4 f9 f11 f13 f15) (View.readCov_full arg15.view inb_S1024x24_S1024x24_0_0 inb_S1024x24_S1024x24_0_0 _ _).symm
  have a3 := acc_next e2 a2 (b := trip.sl.v425 c arg4 arg9 arg11 arg13 arg15 v28 v30 v31 k f4 f9 f11 f13 f15) (View.readCov_full arg15.view inb_S1024x24_S1024x24_0_0 inb_S1024x24_S1024x24_0_0 _ _).symm
  have a4 := acc_next e3 a3 (b := trip.sl.v523 c arg4 arg9 arg11 arg13 arg15 v28 v30 v31 k f4 f9 f11 f13 f15) (View.readCov_full arg15.view inb_S1024x24_S1024x24_0_0 inb_S1024x24_S1024x24_0_0 _ _).symm
  have a5 := acc_next e4 a4 (b := trip.sl.v621 c arg4 arg9 arg11 arg13 arg15 v28 v30 v31 k f4 f9 f11 f13 f15) (View.readCov_full arg15.view inb_S1024x24_S1024x24_0_0 inb_S1024x24_S1024x24_0_0 _ _).symm
  have a6 := acc_next e5 a5 (b := trip.sl.v719 c arg4 arg9 arg11 arg13 arg15 v28 v30 v31 k f4 f9 f11 f13 f15) (View.readCov_full arg15.view inb_S1024x24_S1024x24_0_0 inb_S1024x24_S1024x24_0_0 _ _).symm
  have a7 := acc_next e6 a6 (b := trip.sl.v817 c arg4 arg9 arg11 arg13 arg15 v28 v30 v31 k f4 f9 f11 f13 f15) (View.readCov_full arg15.view inb_S1024x24_S1024x24_0_0 inb_S1024x24_S1024x24_0_0 _ _).symm
  have a8 := acc_next e7 a7 (b := trip.sl.v915 c arg4 arg9 arg11 arg13 arg15 v28 v30 v31 k f4 f9 f11 f13 f15) (View.readCov_full arg15.view inb_S1024x24_S1024x24_0_0 inb_S1024x24_S1024x24_0_0 _ _).symm
  have a9 := acc_next e8 a8 (b := trip.sl.v1013 c arg4 arg9 arg11 arg13 arg15 v28 v30 v31 k f4 f9 f11 f13 f15) (View.readCov_full arg15.view inb_S1024x24_S1024x24_0_0 inb_S1024x24_S1024x24_0_0 _ _).symm
  have a10 := acc_next e9 a9 (b := trip.sl.v1111 c arg4 arg9 arg11 arg13 arg15 v28 v30 v31 k f4 f9 f11 f13 f15) (View.readCov_full arg15.view inb_S1024x24_S1024x24_0_0 inb_S1024x24_S1024x24_0_0 _ _).symm
  have a11 := acc_next e10 a10 (b := trip.sl.v1209 c arg4 arg9 arg11 arg13 arg15 v28 v30 v31 k f4 f9 f11 f13 f15) (View.readCov_full arg15.view inb_S1024x24_S1024x24_0_0 inb_S1024x24_S1024x24_0_0 _ _).symm
  have e12 := st_next e11 (q := (truncf .bf16 (k0_pay159 (trip.sl.v1096 c arg4 arg9 arg11 arg13 f4 f9 f11 f13) (trip.sl.v1181 c arg4 arg9 arg11 arg13 f4 f9 f11 f13) (trip.sl.v1186 c arg4 arg9 arg11 arg13 f4 f9 f11 f13) (trip.sl.v1188 c arg4 arg9 arg11 arg13 f4 f9 f11 f13)) bitsLt_bf16_f32, k0_pay158 (trip.sl.v1096 c arg4 arg9 arg11 arg13 f4 f9 f11 f13) (trip.sl.v1181 c arg4 arg9 arg11 arg13 f4 f9 f11 f13) (trip.sl.v1188 c arg4 arg9 arg11 arg13 f4 f9 f11 f13))) rfl
  have a12 := acc_next e11 a11 (b := k0_pay160 (k0_pay1 v28) v30 v31 (trip.sl.v1096 c arg4 arg9 arg11 arg13 f4 f9 f11 f13) (trip.sl.v1120 k) (trip.sl.v1181 c arg4 arg9 arg11 arg13 f4 f9 f11 f13) (trip.sl.v1186 c arg4 arg9 arg11 arg13 f4 f9 f11 f13) (trip.sl.v1188 c arg4 arg9 arg11 arg13 f4 f9 f11 f13) (trip.sl.v1209 c arg4 arg9 arg11 arg13 arg15 v28 v30 v31 k f4 f9 f11 f13 f15)) rfl
  rw [trip_val]
  exact ⟨e12.trans (Prod.ext ((View.readAt_writes_full arg11.view f11 inb_S1024x256_S1024x256_0_0 inb_S1024x256_S1024x256_0_0 _ []).trans (shapeCast_self (s := S1024x256) _ _)).symm
      ((View.readAt_writes_full arg13.view f13 inb_S1024x256_S1024x256_0_0 inb_S1024x256_S1024x256_0_0 _ []).trans (shapeCast_self (s := S1024x256) _ _)).symm),
    a12.trans (View.readAt_writes_full arg15.view f15 inb_S1024x24_S1024x24_0_0 inb_S1024x24_S1024x24_0_0 _ _).symm⟩

end Cert.Proof.KernelIdeal

end
-- ==== Proof.Body.lean ====
module

public import proofs.«01_k».proof.Proof.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords)
  (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole)
  (v28 : Vec F S1x256 .f32) (v30 : Elt F .f32) (v31 : IVec S1024x24 32)

/-- The contents of the six buffers the loop writes: the two state pairs and the two collecting blocks. -/
abbrev Six : Type := Bf (F := F) c arg10 × Bf (F := F) c arg11 × Bf (F := F) c arg12 × Bf (F := F) c arg13 × Bf (F := F) c arg14 × Bf (F := F) c arg15

/-- The six contents before trip `n`, from those at the loop's entry: one `trip` after another. -/
def cont (f4 : Bf (F := F) c arg4) (f9 : Bf (F := F) c arg9) (s : Six (F := F) c arg10 arg11 arg12 arg13 arg14 arg15) :
    ℕ → Six (F := F) c arg10 arg11 arg12 arg13 arg14 arg15
  | 0 => s
  | n + 1 =>
    let p := cont f4 f9 s n
    if h : n < k0_t1_loop.trips then (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨n, h⟩ f4 f9 p.1 p.2.1 p.2.2.1 p.2.2.2.1 p.2.2.2.2.1 p.2.2.2.2.2).1 else p

/-- The buffers a trip holds, before trip `n`. -/
abbrev loopAt (f4 : Bf (F := F) c arg4) (f9 : Bf (F := F) c arg9) (p : Six (F := F) c arg10 arg11 arg12 arg13 arg14 arg15) : sProp 𝕄 :=
  iprop(pt c arg4 f4 ∗ pt c arg9 f9 ∗ pt c arg10 p.1 ∗ pt c arg11 p.2.1 ∗ pt c arg12 p.2.2.1 ∗ pt c arg13 p.2.2.2.1
    ∗ pt c arg14 p.2.2.2.2.1 ∗ pt c arg15 p.2.2.2.2.2)

/-- One trip carries the buffers from `cont n` to `cont (n + 1)`. -/
theorem loop_step (f4 : Bf (F := F) c arg4) (f9 : Bf (F := F) c arg9) (s : Six (F := F) c arg10 arg11 arg12 arg13 arg14 arg15)
    (k : Fin k0_t1_loop.trips) :
    loopAt c arg4 arg9 arg10 arg11 arg12 arg13 arg14 arg15 f4 f9 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s k.val)
      ⊢ wp frame (wpE (defs₀ (F := F)) 𝒱₀ c none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k ())
          (fun _ => loopAt c arg4 arg9 arg10 arg11 arg12 arg13 arg14 arg15 f4 f9 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s (k.val + 1))) := by
  rw [cont, dif_pos k.isLt]
  exact (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 k f4 f9 _ _ _ _ _ _).2

/-- The decoding loop, from the buffers as they stand at its entry to `cont` of the trip count. -/
theorem loop_wp (f4 : Bf (F := F) c arg4) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15)
    (kk : Unit → Prog (TpuEff nD τ sig (Elt F) Λ₀ .tc) PUnit) (Q : PUnit → sProp 𝕄) :
    iprop((pt c arg4 f4 ∗ pt c arg9 f9 ∗ pt c arg10 f10 ∗ pt c arg11 f11 ∗ pt c arg12 f12 ∗ pt c arg13 f13 ∗ pt c arg14 f14 ∗ pt c arg15 f15)
      ∗ (loopAt c arg4 arg9 arg10 arg11 arg12 arg13 arg14 arg15 f4 f9
          (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 (f10, f11, f12, f13, f14, f15) k0_t1_loop.trips)
        -∗ wp frame (wpE (defs₀ (F := F)) 𝒱₀ c none) Set.univ (kk ()) Q))
      ⊢ wp frame (wpE (defs₀ (F := F)) 𝒱₀ c none) Set.univ
          (Scf.Loop.for k0_t1_loop k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31) >>= kk) Q := by
  have h := Scf.wp_for_bind frame (wpE (defs₀ (F := F)) 𝒱₀ c none) Set.univ k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31)
    (fun n _ => loopAt c arg4 arg9 arg10 arg11 arg12 arg13 arg14 arg15 f4 f9
          (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 (f10, f11, f12, f13, f14, f15) n))
    (fun k _ => loop_step c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 _ k) (kk := kk) (Q := Q)
  iintro ⟨HI, HK⟩
  iapply h $$ [HI]
  · iexact HI
  · iintro %acc HI
    iapply HK; iexact HI

set_option sl_exec.resultNames true in
/-- The whole body at symbolic contents: what it leaves in the result's staging buffer, with its run — the inputs
    held as they were, the scratch buffers at something. -/
def body (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    { W : Bf (F := F) c arg8 //
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15)
        ⊢ wp frame (wpE (defs₀ (F := F)) 𝒱₀ c none) Set.univ (cc0_lstm_decode (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop(pt c arg1 f1 ∗ pt c arg2 f2 ∗ pt c arg3 f3 ∗ pt c arg4 f4 ∗ pt c arg5 f5 ∗ pt c arg6 f6 ∗ pt c arg7 f7 ∗ pt c arg8 W
            ∗ (∃ f, pt (F := F) c arg9 f) ∗ (∃ f, pt (F := F) c arg10 f) ∗ (∃ f, pt (F := F) c arg11 f) ∗ (∃ f, pt (F := F) c arg12 f) ∗ (∃ f, pt (F := F) c arg13 f) ∗ (∃ f, pt (F := F) c arg14 f) ∗ (∃ f, pt (F := F) c arg15 f))) } := by
  refine ⟨?_, ?run⟩
  case run =>
    simp only [cc0_lstm_decode_eq_skeleton]; unfold cc0_lstm_decode_skel
    iintro ⟨H1, H2, H3, H4, H5, H6, H7, H8, H9, H10, H11, H12, H13, H14, H15⟩
    sl_exec_parts
    iapply (loop_wp c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _)
    isplitl [H4 H9 H10 H11 H12 H13 H14 H15]
    · isplitl [H4]; · iexact H4
      isplitl [H9]; · iexact H9
      isplitl [H10]; · iexact H10
      isplitl [H11]; · iexact H11
      isplitl [H12]; · iexact H12
      isplitl [H13]; · iexact H13
      isplitl [H14]; · iexact H14
      iexact H15
    iintro ⟨H4, H9, H10, H11, H12, H13, H14, H15⟩
    sl_exec
    sl_step
    sl_close

end Cert.Proof.KernelIdeal

end
-- ==== Proof.Acc.lean ====
module

public import proofs.«01_k».proof.Proof.Step
public import Idealize.ShloMosaic.Lib.Pipeline.Value
public import Idealize.ShloMosaic.Lib.VecWindow

@[expose] public section

noncomputable section

namespace Cert.Proof.KernelIdeal

open Cert.KernelIdeal Cert.KernelIdeal.Gen
open Idealize.ShloMosaic

variable {F : FTy → Type} [FloatOps F]

/-- The output of the step that starts from the states `p`, the same in every lane of its row. -/
def score (g : Chunk F) (fc : Vec F S1x256 .f32) (fcb : Elt F .f32) (p : Vec F S1024x256 .bf16 × Vec F S1024x256 .f32) : Vec F S1024x24 .f32 :=
  broadcastTo S1024x24 (shapeCast S1024x1 (addf (shapeCast S1024x1 (multiReduction .add [1] S1024
    (mulf (k0_pay5 (stepC g p.1 p.2) (k0_pay4 p.1 g.w2 g.x2)) (broadcastTo S1024x256 (k0_pay1 fc) broadcasts_S1x256_S1024x256))
    0x00000000#32 reduces_S1024x256_S1024 (.inl rfl) rfl) shapeCasts_S1024_S1024x1) (broadcast S1024x1 fcb)) shapeCasts_S1024x1_S1024x1) broadcasts_S1024x1_S1024x24

/-- A step writes the lane its word names and leaves the others. -/
theorem stepA_apply (g : Chunk F) (fc : Vec F S1x256 .f32) (fcb : Elt F .f32) (lane : IVec S1024x24 32) (wd : BitVec 32)
    (p : Vec F S1024x256 .bf16 × Vec F S1024x256 .f32) (a : Vec F S1024x24 .f32) (j : S1024x24.Idx) :
    stepA g fc fcb lane wd p a j = if lane j = wd then score g fc fcb p j else a j := by
  unfold stepA k0_pay6 score
  rw [shapeCast_self (s := S1024x24)]
  show Scalar.select (BitVec.ofBool (lane j == wd)) _ _ = _
  by_cases h : lane j = wd
  · rw [if_pos h, h, beq_self_eq_true]; rfl
  · rw [if_neg h, beq_eq_false_iff_ne.mpr h]; rfl

/-- After `n` steps from the word `b`, lane `b + q` holds step `q`'s output for every `q < n`, and the other lanes what they held. -/
theorem acc_apply (g : Chunk F) (fc : Vec F S1x256 .f32) (fcb : Elt F .f32) (lane : IVec S1024x24 32) (b : ℕ)
    (hlane : ∀ j : S1024x24.Idx, lane j = BitVec.ofNat 32 (j 1).val)
    (h : Vec F S1024x256 .bf16) (c : Vec F S1024x256 .f32) (a : Vec F S1024x24 .f32) (n : ℕ) (hn : b + n ≤ 24) (j : S1024x24.Idx) :
    acc g fc fcb lane (BitVec.ofNat 32 b) h c a n j
      = if b ≤ (j 1).val ∧ (j 1).val < b + n then score g fc fcb (st g h c ((j 1).val - b)) j else a j := by
  have hj : (j 1).val < 24 := (j 1).isLt
  induction n with
  | zero => rw [acc, if_neg (by omega)]
  | succ n ih =>
    rw [acc, stepA_apply, ih (by omega), hlane]
    have hw : (BitVec.ofNat 32 (j 1).val = Scalar.addi (BitVec.ofNat 32 b) (BitVec.ofNat 32 n)) ↔ (j 1).val = b + n := by
      show (BitVec.ofNat 32 (j 1).val = BitVec.ofNat 32 b + BitVec.ofNat 32 n) ↔ _
      rw [← BitVec.ofNat_add, ← BitVec.toNat_inj, BitVec.toNat_ofNat, BitVec.toNat_ofNat,
        Nat.mod_eq_of_lt (by omega), Nat.mod_eq_of_lt (by omega)]
    by_cases e : (j 1).val = b + n
    · rw [if_pos (hw.mpr e), if_pos (by omega), show (j 1).val - b = n by omega]
    · rw [if_neg (fun k => e (hw.mp k))]
      by_cases e' : b ≤ (j 1).val ∧ (j 1).val < b + n
      · rw [if_pos e', if_pos (by omega)]
      · rw [if_neg e', if_neg (by omega)]

/-- The states after `m` steps and then `n` more. -/
theorem st_add (g : Chunk F) (h : Vec F S1024x256 .bf16) (c : Vec F S1024x256 .f32) (m n : ℕ) :
    st g (st g h c m).1 (st g h c m).2 n = st g h c (m + n) := by
  induction n with
  | zero => rfl
  | succ n ih => rw [← Nat.add_assoc, st, st, ih]

/-- What a chunk's accumulator holds in the end: in lane `j` the output of step `j`. -/
def half (g : Chunk F) (fc : Vec F S1x256 .f32) (fcb : Elt F .f32) (h : Vec F S1024x256 .bf16) (c : Vec F S1024x256 .f32) : Vec F S1024x24 .f32 :=
  fun j => score g fc fcb (st g h c (j 1).val) j

/-- Two trips of twelve steps fill the accumulator, whatever it held. -/
theorem half_of_trips {g : Chunk F} {fc : Vec F S1x256 .f32} {fcb : Elt F .f32} {lane : IVec S1024x24 32}
    (hlane : ∀ j : S1024x24.Idx, lane j = BitVec.ofNat 32 (j 1).val)
    {h h' : Vec F S1024x256 .bf16} {c c' : Vec F S1024x256 .f32} {a a' a'' : Vec F S1024x24 .f32} {w0 w1 : BitVec 32}
    (hw0 : w0 = BitVec.ofNat 32 0) (hw1 : w1 = BitVec.ofNat 32 12)
    (es : st g h c 12 = (h', c')) (e0 : acc g fc fcb lane w0 h c a 12 = a') (e1 : acc g fc fcb lane w1 h' c' a' 12 = a'') :
    a'' = half g fc fcb h c := by
  subst hw0 hw1
  funext j
  have hj : (j 1).val < 24 := (j 1).isLt
  rw [← e1, ← e0, acc_apply g fc fcb lane 12 hlane h' c' _ 12 (by omega) j, acc_apply g fc fcb lane 0 hlane h c a 12 (by omega) j]
  have es1 : h' = (st g h c 12).1 := by rw [es]
  have es2 : c' = (st g h c 12).2 := by rw [es]
  rw [es1, es2, st_add]
  unfold half
  by_cases e : 12 ≤ (j 1).val
  · rw [if_pos (by omega), show 12 + ((j 1).val - 12) = (j 1).val by omega]
  · rw [if_neg (by omega), if_pos (by omega), Nat.sub_zero]

/-- The chunk of the first half of the rows, and of the second, from the recurrent weights and the input gates. -/
def topChunk (w : Vec F S256x1024 .bf16) (xg : Vec F S2048x1024 .f32) : Chunk F :=
  ⟨View.ld w (Rect.unit ![0, 0] S256x512.size inb_S256x1024_S256x512_0_0), View.ld w (Rect.unit ![0, 512] S256x512.size inb_S256x1024_S256x512_0_512),
   View.ld xg (Rect.unit ![0, 0] S1024x512.size inb_S2048x1024_S1024x512_0_0), View.ld xg (Rect.unit ![0, 512] S1024x512.size inb_S2048x1024_S1024x512_0_512)⟩

/-- The same of the second half of the rows. -/
def botChunk (w : Vec F S256x1024 .bf16) (xg : Vec F S2048x1024 .f32) : Chunk F :=
  ⟨View.ld w (Rect.unit ![0, 0] S256x512.size inb_S256x1024_S256x512_0_0), View.ld w (Rect.unit ![0, 512] S256x512.size inb_S256x1024_S256x512_0_512),
   View.ld xg (Rect.unit ![1024, 0] S1024x512.size inb_S2048x1024_S1024x512_1024_0), View.ld xg (Rect.unit ![1024, 512] S1024x512.size inb_S2048x1024_S1024x512_1024_512)⟩

/-- What the first half of the rows gets. -/
def topHalf (x1 : Vec F S2048x128 .bf16) (x2 : Vec F S2048x256 .bf16) (x3 : Vec F S2048x256 .f32) (x4 : Vec F S256x1024 .bf16)
    (x5 : Vec F S128x1024 .bf16) (x6 : Vec F S1x256 .f32) (x7 : Vec F S1 .f32) : Vec F S1024x24 .f32 :=
  half (topChunk x4 (k0_pay169 x1 x5)) x6 (x7 (Shape.Idx.first (by decide))) (View.ld x2 (Rect.unit ![0, 0] S1024x256.size inb_S2048x256_S1024x256_0_0))
    (View.ld x3 (Rect.unit ![0, 0] S1024x256.size inb_S2048x256_S1024x256_0_0))

/-- What the second half of the rows gets. -/
def botHalf (x1 : Vec F S2048x128 .bf16) (x2 : Vec F S2048x256 .bf16) (x3 : Vec F S2048x256 .f32) (x4 : Vec F S256x1024 .bf16)
    (x5 : Vec F S128x1024 .bf16) (x6 : Vec F S1x256 .f32) (x7 : Vec F S1 .f32) : Vec F S1024x24 .f32 :=
  half (botChunk x4 (k0_pay169 x1 x5)) x6 (x7 (Shape.Idx.first (by decide))) (View.ld x2 (Rect.unit ![1024, 0] S1024x256.size inb_S2048x256_S1024x256_1024_0))
    (View.ld x3 (Rect.unit ![1024, 0] S1024x256.size inb_S2048x256_S1024x256_1024_0))

/-- The block of results, from the blocks the body is given: the two halves of its rows. -/
def out (x1 : Vec F S2048x128 .bf16) (x2 : Vec F S2048x256 .bf16) (x3 : Vec F S2048x256 .f32) (x4 : Vec F S256x1024 .bf16)
    (x5 : Vec F S128x1024 .bf16) (x6 : Vec F S1x256 .f32) (x7 : Vec F S1 .f32) : Vec F S2048x24 .f32 :=
  View.canon [⟨Rect.unit ![1024, 0] S1024x24.size inb_S2048x24_S1024x24_1024_0, botHalf x1 x2 x3 x4 x5 x6 x7⟩,
    ⟨Rect.unit ![0, 0] S1024x24.size inb_S2048x24_S1024x24_0_0, topHalf x1 x2 x3 x4 x5 x6 x7⟩]

end Cert.Proof.KernelIdeal

end
-- ==== Proof.BodyValue.lean ====
module

public import proofs.«01_k».proof.Proof.TripValue
public import proofs.«01_k».proof.Proof.Body
public import proofs.«01_k».proof.Proof.Acc

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
  (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole)
  (v28 : Vec F S1x256 .f32) (v30 : Elt F .f32) (v31 : IVec S1024x24 32)

/-- What the loop leaves in the first accumulator. -/
theorem cont_A (hlane : ∀ j : S1024x24.Idx, v31 j = BitVec.ofNat 32 (j 1).val) (f4 : Bf (F := F) c arg4) (f9 : Bf (F := F) c arg9) (s : Six (F := F) c arg10 arg11 arg12 arg13 arg14 arg15) :
    rdW c arg14 ![0, 0] inb_S1024x24_S1024x24_0_0 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s k0_t1_loop.trips).2.2.2.2.1
      = half (chunkA c arg4 arg9 f4 f9) v28 v30 (rdW c arg10 ![0, 0] inb_S1024x256_S1024x256_0_0 s.1) (rdW c arg12 ![0, 0] inb_S1024x256_S1024x256_0_0 s.2.2.1) := by
  have h0 : 0 < k0_t1_loop.trips := by decide
  have h1 : 1 < k0_t1_loop.trips := by decide
  have e1 : cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1
      = (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨0, h0⟩ f4 f9 s.1 s.2.1 s.2.2.1 s.2.2.2.1 s.2.2.2.2.1 s.2.2.2.2.2).1 := by
    rw [cont, dif_pos h0, cont]
  have e2 : cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s (1 + 1)
      = (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨1, h1⟩ f4 f9 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.2).1 := by
    rw [cont, dif_pos h1]
  obtain ⟨s0, a0⟩ := trip_A c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨0, h0⟩ f4 f9 s.1 s.2.1 s.2.2.1 s.2.2.2.1 s.2.2.2.2.1 s.2.2.2.2.2
  rw [← e1] at s0 a0
  have t1 := trip_A c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨1, h1⟩ f4 f9
    (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.1
    (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.1
    (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.2
  rw [← e2] at t1
  rw [show k0_t1_loop.trips = 1 + 1 by decide]
  exact half_of_trips hlane (show Scalar.muli 12#32 (Scf.iv 0#32 1#32 0) = 0#32 by decide) (show Scalar.muli 12#32 (Scf.iv 0#32 1#32 1) = 12#32 by decide) s0 a0 t1.2

/-- What the loop leaves in the second accumulator. -/
theorem cont_B (hlane : ∀ j : S1024x24.Idx, v31 j = BitVec.ofNat 32 (j 1).val) (f4 : Bf (F := F) c arg4) (f9 : Bf (F := F) c arg9) (s : Six (F := F) c arg10 arg11 arg12 arg13 arg14 arg15) :
    rdW c arg15 ![0, 0] inb_S1024x24_S1024x24_0_0 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s k0_t1_loop.trips).2.2.2.2.2
      = half (chunkB c arg4 arg9 f4 f9) v28 v30 (rdW c arg11 ![0, 0] inb_S1024x256_S1024x256_0_0 s.2.1) (rdW c arg13 ![0, 0] inb_S1024x256_S1024x256_0_0 s.2.2.2.1) := by
  have h0 : 0 < k0_t1_loop.trips := by decide
  have h1 : 1 < k0_t1_loop.trips := by decide
  have e1 : cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1
      = (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨0, h0⟩ f4 f9 s.1 s.2.1 s.2.2.1 s.2.2.2.1 s.2.2.2.2.1 s.2.2.2.2.2).1 := by
    rw [cont, dif_pos h0, cont]
  have e2 : cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s (1 + 1)
      = (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨1, h1⟩ f4 f9 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.2).1 := by
    rw [cont, dif_pos h1]
  obtain ⟨s0, a0⟩ := trip_B c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨0, h0⟩ f4 f9 s.1 s.2.1 s.2.2.1 s.2.2.2.1 s.2.2.2.2.1 s.2.2.2.2.2
  rw [← e1] at s0 a0
  have t1 := trip_B c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 ⟨1, h1⟩ f4 f9
    (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.1
    (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.1
    (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.1 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 v28 v30 v31 f4 f9 s 1).2.2.2.2.2
  rw [← e2] at t1
  rw [show k0_t1_loop.trips = 1 + 1 by decide]
  exact half_of_trips hlane (show Scalar.muli 12#32 (Scf.iv 0#32 1#32 0) = 0#32 by decide) (show Scalar.muli 12#32 (Scf.iv 0#32 1#32 1) = 12#32 by decide) s0 a0 t1.2

set_option maxHeartbeats 1000000 in
/-- The body's result, read whole: the block of results of the blocks it was given, whatever its scratch held. -/
theorem body_read (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    arg8.view.read (Elt F) (body c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).1 = out (arg1.view.read (Elt F) f1) (arg2.view.read (Elt F) f2) (arg3.view.read (Elt F) f3) (arg4.view.read (Elt F) f4) (arg5.view.read (Elt F) f5) (arg6.view.read (Elt F) f6) (arg7.view.read (Elt F) f7) := by
  have hlane : ∀ j : S1024x24.Idx, body.sl.v31 j = BitVec.ofNat 32 (j 1).val := fun j => by
    show BitVec.ofNat 32 (0 * _ + (j 1).val) = _
    rw [Nat.zero_mul, Nat.zero_add]
  have e28 : body.sl.v28 c arg6 f6 = arg6.view.read (Elt F) f6 := View.ld_unit_zero (S := S1x256) (by decide) _ _
  have e30 : body.sl.v30 c arg7 f7 = arg7.view.read (Elt F) f7 (Shape.Idx.first (by decide)) := congrFun (View.ld_unit_zero (S := S1) (by decide) _ _) _
  have e9 : arg9.view.read (Elt F) (arg9.view.writes (Elt F) arg9.view.junk (body.sl.H9_1 c arg1 arg5 f1 f5)) = k0_pay169 (arg1.view.read (Elt F) f1) (arg5.view.read (Elt F) f5) := by
    rw [← View.ld_unit_zero (S := S2048x1024) (by decide) inb_S2048x1024_S2048x1024_0_0 (arg9.view.read (Elt F) _)]
    refine (View.readAt_writes_full arg9.view arg9.view.junk inb_S2048x1024_S2048x1024_0_0 inb_S2048x1024_S2048x1024_0_0 _ []).trans ?_
    exact congrArg₂ k0_pay169 (View.ld_unit_zero (S := S2048x128) (by decide) _ _) (View.ld_unit_zero (S := S128x1024) (by decide) _ _)
  have ecA : chunkA c arg4 arg9 f4 (arg9.view.writes (Elt F) arg9.view.junk (body.sl.H9_1 c arg1 arg5 f1 f5)) = topChunk (arg4.view.read (Elt F) f4) (k0_pay169 (arg1.view.read (Elt F) f1) (arg5.view.read (Elt F) f5)) := by
    rw [← e9]; rfl
  have ecB : chunkB c arg4 arg9 f4 (arg9.view.writes (Elt F) arg9.view.junk (body.sl.H9_1 c arg1 arg5 f1 f5)) = botChunk (arg4.view.read (Elt F) f4) (k0_pay169 (arg1.view.read (Elt F) f1) (arg5.view.read (Elt F) f5)) := by
    rw [← e9]; rfl
  have e10 : rdW c arg10 ![0, 0] inb_S1024x256_S1024x256_0_0 (arg10.view.writes (Elt F) arg10.view.junk (body.sl.H10_1 c arg2 f2))
      = View.ld (arg2.view.read (Elt F) f2) (Rect.unit ![0, 0] S1024x256.size inb_S2048x256_S1024x256_0_0) :=
    (View.readAt_writes_full arg10.view arg10.view.junk inb_S1024x256_S1024x256_0_0 inb_S1024x256_S1024x256_0_0 _ []).trans ((shapeCast_self (s := S1024x256) _ shapeCasts_S1024x256_S1024x256).trans (shapeCast_self (s := S1024x256) _ shapeCasts_S1024x256_S1024x256))
  have e11 : rdW c arg11 ![0, 0] inb_S1024x256_S1024x256_0_0 (arg11.view.writes (Elt F) arg11.view.junk (body.sl.H11_1 c arg2 f2))
      = View.ld (arg2.view.read (Elt F) f2) (Rect.unit ![1024, 0] S1024x256.size inb_S2048x256_S1024x256_1024_0) :=
    (View.readAt_writes_full arg11.view arg11.view.junk inb_S1024x256_S1024x256_0_0 inb_S1024x256_S1024x256_0_0 _ []).trans ((shapeCast_self (s := S1024x256) _ shapeCasts_S1024x256_S1024x256).trans (shapeCast_self (s := S1024x256) _ shapeCasts_S1024x256_S1024x256))
  have e12 : rdW c arg12 ![0, 0] inb_S1024x256_S1024x256_0_0 (arg12.view.writes (Elt F) arg12.view.junk (body.sl.H12_1 c arg3 f3))
      = View.ld (arg3.view.read (Elt F) f3) (Rect.unit ![0, 0] S1024x256.size inb_S2048x256_S1024x256_0_0) :=
    (View.readAt_writes_full arg12.view arg12.view.junk inb_S1024x256_S1024x256_0_0 inb_S1024x256_S1024x256_0_0 _ []).trans ((shapeCast_self (s := S1024x256) _ shapeCasts_S1024x256_S1024x256).trans (shapeCast_self (s := S1024x256) _ shapeCasts_S1024x256_S1024x256))
  have e13 : rdW c arg13 ![0, 0] inb_S1024x256_S1024x256_0_0 (arg13.view.writes (Elt F) arg13.view.junk (body.sl.H13_1 c arg3 f3))
      = View.ld (arg3.view.read (Elt F) f3) (Rect.unit ![1024, 0] S1024x256.size inb_S2048x256_S1024x256_1024_0) :=
    (View.readAt_writes_full arg13.view arg13.view.junk inb_S1024x256_S1024x256_0_0 inb_S1024x256_S1024x256_0_0 _ []).trans ((shapeCast_self (s := S1024x256) _ shapeCasts_S1024x256_S1024x256).trans (shapeCast_self (s := S1024x256) _ shapeCasts_S1024x256_S1024x256))
  have hA : rdW c arg14 ![0, 0] inb_S1024x24_S1024x24_0_0 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 (body.sl.v28 c arg6 f6) (body.sl.v30 c arg7 f7) body.sl.v31 f4 (arg9.view.writes (Elt F) arg9.view.junk (body.sl.H9_1 c arg1 arg5 f1 f5)) (arg10.view.writes (Elt F) arg10.view.junk (body.sl.H10_1 c arg2 f2), arg11.view.writes (Elt F) arg11.view.junk (body.sl.H11_1 c arg2 f2), arg12.view.writes (Elt F) arg12.view.junk (body.sl.H12_1 c arg3 f3), arg13.view.writes (Elt F) arg13.view.junk (body.sl.H13_1 c arg3 f3), f14, f15) k0_t1_loop.trips).2.2.2.2.1
      = topHalf (arg1.view.read (Elt F) f1) (arg2.view.read (Elt F) f2) (arg3.view.read (Elt F) f3) (arg4.view.read (Elt F) f4) (arg5.view.read (Elt F) f5) (arg6.view.read (Elt F) f6) (arg7.view.read (Elt F) f7) := by
    rw [cont_A c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ hlane, ecA, e10, e12, e28, e30]
    rfl
  have hB : rdW c arg15 ![0, 0] inb_S1024x24_S1024x24_0_0 (cont c i arg1 harg1 arg2 harg2 arg3 harg3 arg4 harg4 arg5 harg5 arg6 harg6 arg7 harg7 arg8 harg8 arg9 harg9 arg10 harg10 arg11 harg11 arg12 harg12 arg13 harg13 arg14 harg14 arg15 harg15 (body.sl.v28 c arg6 f6) (body.sl.v30 c arg7 f7) body.sl.v31 f4 (arg9.view.writes (Elt F) arg9.view.junk (body.sl.H9_1 c arg1 arg5 f1 f5)) (arg10.view.writes (Elt F) arg10.view.junk (body.sl.H10_1 c arg2 f2), arg11.view.writes (Elt F) arg11.view.junk (body.sl.H11_1 c arg2 f2), arg12.view.writes (Elt F) arg12.view.junk (body.sl.H12_1 c arg3 f3), arg13.view.writes (Elt F) arg13.view.junk (body.sl.H13_1 c arg3 f3), f14, f15) k0_t1_loop.trips).2.2.2.2.2
      = botHalf (arg1.view.read (Elt F) f1) (arg2.view.read (Elt F) f2) (arg3.view.read (Elt F) f3) (arg4.view.read (Elt F) f4) (arg5.view.read (Elt F) f5) (arg6.view.read (Elt F) f6) (arg7.view.read (Elt F) f7) := by
    rw [cont_B c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ hlane, ecB, e11, e13, e28, e30]
    rfl
  refine Eq.trans ?_ (congrArg₂ (fun (a b : Vec F S1024x24 .f32) => View.canon (s := S2048x24) (e := .f32) (Val := Elt F) [⟨Rect.unit ![1024, 0] S1024x24.size inb_S2048x24_S1024x24_1024_0, a⟩, ⟨Rect.unit ![0, 0] S1024x24.size inb_S2048x24_S1024x24_0_0, b⟩]) hB hA)
  refine View.read_writes_eq_canon arg8.view f8 [⟨Rect.unit ![1024, 0] S1024x24.size inb_S2048x24_S1024x24_1024_0, _⟩, ⟨Rect.unit ![0, 0] S1024x24.size inb_S2048x24_S1024x24_0_0, _⟩] ?_
  exact View.cover_of_tiled _ S1024x24.size (by rfl)

end Cert.Proof.KernelIdeal

end
-- ==== Proof.Run.lean ====
module

public import proofs.«01_k».proof.Proof.BodyValue
public import proofs.«01_k».proof.Proof.Gen.KernelIdeal.Frame
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Kernel

variable (c : Dev nD) (i : grid0.Coords)
  (arg1 : Memref sig .tc .vmem S2048x128 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S256x1024 .bf16) (harg4 : arg4.IsWhole) (arg5 : Memref sig .tc .vmem S128x1024 .bf16) (harg5 : arg5.IsWhole) (arg6 : Memref sig .tc .vmem S1x256 .f32) (harg6 : arg6.IsWhole) (arg7 : Memref sig .tc .smem S1 .f32) (harg7 : arg7.IsWhole) (arg8 : Memref sig .tc .vmem S2048x24 .f32) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x24 .f32) (harg14 : arg14.IsWhole) (arg15 : Memref sig .tc .vmem S1024x24 .f32) (harg15 : arg15.IsWhole)

/-- The scratch buffers at some contents. -/
abbrev scratch : sProp 𝕄 :=
  iprop((∃ f, pt (F := F) c arg9 f) ∗ (∃ f, pt (F := F) c arg10 f) ∗ (∃ f, pt (F := F) c arg11 f) ∗ (∃ f, pt (F := F) c arg12 f) ∗ (∃ f, pt (F := F) c arg13 f) ∗ (∃ f, pt (F := F) c arg14 f) ∗ (∃ f, pt (F := F) c arg15 f))

set_option maxHeartbeats 2000000 in
/-- The body on whole memrefs: the inputs' blocks stay, the result's buffer ends at `out` of them. -/
theorem sound_kernel (x1 : Vec F S2048x128 .bf16) (x2 : Vec F S2048x256 .bf16) (x3 : Vec F S2048x256 .f32) (x4 : Vec F S256x1024 .bf16)
    (x5 : Vec F S128x1024 .bf16) (x6 : Vec F S1x256 .f32) (x7 : Vec F S1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ scratch c arg9 arg10 arg11 arg12 arg13 arg14 arg15
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out x1 x2 x3 x4 x5 x6 x7) ∗ scratch (F := F) c arg9 arg10 arg11 arg12 arg13 arg14 arg15) -∗ K ⟨⟩))
      ⊢ wp frame (wpE (defs₀ (F := F)) 𝒱₀ c none) Set.univ (cc0_lstm_decode (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  simp only [harg1.set_eq_univ, harg2.set_eq_univ, harg3.set_eq_univ, harg4.set_eq_univ, harg5.set_eq_univ, harg6.set_eq_univ, harg7.set_eq_univ, harg8.set_eq_univ]
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨⟨%f9, H9⟩, ⟨%f10, H10⟩, ⟨%f11, H11⟩, ⟨%f12, H12⟩, ⟨%f13, H13⟩, ⟨%f14, H14⟩, ⟨%f15, H15⟩⟩, Hk⟩
  subst hf1 hf2 hf3 hf4 hf5 hf6 hf7
  iapply (wp_wand frame (wpE (defs₀ (F := F)) 𝒱₀ c none) Set.univ) $$ [H1 H2 H3 H4 H5 H6 H7 H8 H9 H10 H11 H12 H13 H14 H15]
  · iapply (body c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15).2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %a ⟨H1, H2, H3, H4, H5, H6, H7, H8, H9, H10, H11, H12, H13, H14, H15⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact body_read c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 f10 f11 f12 f13 f14 f15
  isplitl [H9]; · iexact H9
  isplitl [H10]; · iexact H10
  isplitl [H11]; · iexact H11
  isplitl [H12]; · iexact H12
  isplitl [H13]; · iexact H13
  isplitl [H14]; · iexact H14
  iexact H15

end Kernel

variable (m : (ℓ : Loc nD τ sig) → Buf (Elt F) ℓ) (ρ : Dev nD → PrngReg)

/-- The pipeline's proof data: the arrays as the region finds them, each input's block left in place, the result's block
    at `out` of the inputs' blocks; the scratch buffers and the generator register at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t = iblk m c 5 t := by dsimp only [dats]
/-- Window 6 after the body. -/
theorem after0_6 (c : Dev nD) (t : Fin cfg0.N) : (dats m 0 c).after 6 t = iblk m c 6 t := by dsimp only [dats]
/-- The result's window after the body. -/
theorem after0_7 (c : Dev nD) (t : Fin cfg0.N) : (dats m 0 c).after 7 t = out (iblk m c 0 t) (iblk m c 1 t) (iblk m c 2 t) (iblk m c 3 t) (iblk m c 4 t) (iblk m c 5 t) (iblk m c 6 t) := by dsimp only [dats]

/-- Window 0 before the body. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body's triple at any point of the grid. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The pipeline's obligation for the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every run of the program ends, with the pipeline's arrays at what the proof data give, the rest at what the host
    operations leave, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The program ends, its arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Algebra.lean ====
module

public import Idealize.ShloMosaic.Lib.IdealHost

@[expose] public section

/-! # Laws of the extended reals that join the kernel's way of writing the cell to the plain one

The kernel writes the logistic function through `tanh` of half the argument, keeps twice the hidden state, and folds the halves
into its weights. Each rewriting is an equation between extended reals, infinities included. -/

noncomputable section

namespace Cert.Proof

open Idealize.ShloMosaic

/-- One half, as an extended real. -/
abbrev oneHalf : EReal := ((1 / 2 : ℝ) : EReal)

/-- Two, as an extended real. -/
abbrev two : EReal := ((2 : ℝ) : EReal)

/-- The pattern of the f32 half. -/
theorem ofBits_half : Ideal.ofBits .f32 0x3F000000#32 = oneHalf := by
  simp [Ideal.ofBits, Ideal.ieee]
  unfold oneHalf
  rw [← EReal.coe_mul]
  norm_num

/-- The pattern of the f32 two. -/
theorem ofBits_two : Ideal.ofBits .f32 0x40000000#32 = two := by
  simp [Ideal.ofBits, Ideal.ieee]
  unfold two
  rw [← EReal.coe_mul]
  norm_num

/-- The pattern of the f32 infinity. -/
theorem ofBits_inf : Ideal.ofBits .f32 0x7F800000#32 = (⊤ : EReal) := by
  simp [Ideal.ofBits, Ideal.ieee]

/-- One half is not negative. -/
theorem half_nonneg : (0 : EReal) ≤ oneHalf := EReal.coe_nonneg.mpr (by norm_num)

/-- One half is not infinity. -/
theorem half_ne_top : oneHalf ≠ ⊤ := EReal.coe_ne_top _

/-- A half of two is one. -/
theorem half_two : oneHalf * two = 1 := by
  rw [← EReal.coe_mul]; norm_num

/-- Twice one half is one. -/
theorem two_half : two * oneHalf = 1 := by rw [mul_comm, half_two]

/-- A half distributes over a sum of two. -/
theorem half_add (x y : EReal) : oneHalf * (x + y) = oneHalf * x + oneHalf * y :=
  EReal.left_distrib_of_nonneg_of_ne_top half_nonneg half_ne_top x y

/-- A factor that is nonnegative and finite comes out of a finite sum. -/
theorem sum_scale {s : EReal} (h0 : 0 ≤ s) (ht : s ≠ ⊤) {ι : Type} (t : Finset ι) (f : ι → EReal) :
    ∑ k ∈ t, s * f k = s * ∑ k ∈ t, f k := by
  classical
  induction t using Finset.induction_on with
  | empty => simp
  | insert a t ha ih => rw [Finset.sum_insert ha, Finset.sum_insert ha, ih, EReal.left_distrib_of_nonneg_of_ne_top h0 ht]

/-- The logistic function through the hyperbolic tangent: half of (tanh of half of `G`, plus one). -/
theorem half_tanh (G : EReal) : oneHalf * (Ideal.tanh (oneHalf * G) + 1) = Ideal.logistic G := by
  unfold Ideal.logistic
  induction G using EReal.rec with
  | bot =>
    rw [EReal.coe_mul_bot_of_pos (by norm_num : (0 : ℝ) < 1 / 2), Ideal.tanh_bot, EReal.neg_bot, Ideal.exp_top]
    rw [show (1 : EReal) + ⊤ = ⊤ from EReal.add_top_of_ne_bot (by decide)]
    rw [show (-1 : EReal) + 1 = 0 by
      rw [show (1 : EReal) = ((1 : ℝ) : EReal) from rfl, ← EReal.coe_neg, ← EReal.coe_add]; norm_num]
    simp [Ideal.div]
  | top =>
    rw [EReal.coe_mul_top_of_pos (by norm_num : (0 : ℝ) < 1 / 2), Ideal.tanh_top, EReal.neg_top, Ideal.exp_bot]
    rw [add_zero, show (1 : EReal) + 1 = two by
      rw [show (1 : EReal) = ((1 : ℝ) : EReal) from rfl, ← EReal.coe_add]; norm_num, half_two]
    simp [Ideal.div]
  | coe x =>
    have hpos : (0 : ℝ) < 1 + Real.exp (-x) := by positivity
    rw [← EReal.coe_mul, Ideal.tanh_coe, ← EReal.coe_neg, Ideal.exp_coe, show (1 : EReal) = ((1 : ℝ) : EReal) from rfl,
      ← EReal.coe_add, ← EReal.coe_add, ← EReal.coe_mul]
    unfold Ideal.div
    rw [if_neg (by exact_mod_cast hpos.ne'), ← EReal.coe_inv, ← EReal.coe_mul]
    congr 1
    rw [Real.tanh_eq_sinh_div_cosh, Real.sinh_eq, Real.cosh_eq]
    have e : Real.exp (-x) = Real.exp (-(1 / 2 * x)) * Real.exp (-(1 / 2 * x)) := by
      rw [← Real.exp_add]; congr 1; ring
    have e1 : Real.exp (1 / 2 * x) * Real.exp (-(1 / 2 * x)) = 1 := by
      rw [← Real.exp_add]; simp
    have p1 := Real.exp_pos (1 / 2 * x)
    have p2 := Real.exp_pos (-(1 / 2 * x))
    rw [e]
    generalize Real.exp (1 / 2 * x) = a at *
    generalize Real.exp (-(1 / 2 * x)) = b at *
    have hb : b = a⁻¹ := by field_simp; linarith
    subst hb
    field_simp
    ring

/-- One plus the hyperbolic tangent of half of `G` is twice the logistic function. -/
theorem tanh_succ (G : EReal) : Ideal.tanh (oneHalf * G) + 1 = two * Ideal.logistic G := by
  rw [← half_tanh, ← mul_assoc, two_half, one_mul]

/-- The doubled state against the halved weight, with a further factor `s` in the weight. -/
theorem doubled_mul (h w s : EReal) : (two * h) * (w * s * oneHalf) = s * (h * w) := by
  rw [show two * h * (w * s * oneHalf) = (two * oneHalf) * (s * (h * w)) by ac_rfl, two_half, one_mul]

/-- A bias below infinity, split into itself and its difference with itself: the two parts add up to it. -/
theorem bias_split (b : EReal) (hb : b ≠ ⊤) : b + (b - b) = b := by
  induction b using EReal.rec with
  | bot => rfl
  | top => exact absurd rfl hb
  | coe x => rw [← EReal.coe_sub, sub_self]; simp

/-- A finite nonnegative multiple of an extended real below infinity is below infinity. -/
theorem mul_ne_top {s b : EReal} (hs : 0 < s) (ht : s ≠ ⊤) (hb : b ≠ ⊤) : b * s ≠ ⊤ := by
  induction s using EReal.rec with
  | bot => exact absurd hs (by simp)
  | top => exact absurd rfl ht
  | coe r =>
    have hr : (0 : ℝ) < r := by exact_mod_cast hs
    induction b using EReal.rec with
    | bot => rw [EReal.bot_mul_coe_of_pos hr]; exact bot_ne_top
    | top => exact absurd rfl hb
    | coe x => rw [← EReal.coe_mul]; exact EReal.coe_ne_top _

end Cert.Proof

end
-- ==== Proof.Cell.lean ====
module

public import proofs.«01_k».proof.Proof.Algebra

@[expose] public section

noncomputable section

/-! # The cell, row by row, as plain mathematics

`W n k` is the recurrent weight of gate row `n`, `x n` the input's part of that gate, biases included. The four gates lie one
after the other: input, forget, candidate, output. -/

namespace Cert.Proof

open Idealize.ShloMosaic

variable (W : Fin 1024 → Fin 256 → EReal) (x : Fin 1024 → EReal)

/-- A gate before its nonlinearity. -/
def gate (h : Fin 256 → EReal) (n : Fin 1024) : EReal := x n + ∑ k : Fin 256, h k * W n k

/-- The next cell state. -/
def nextC (h c : Fin 256 → EReal) (u : Fin 256) : EReal :=
  Ideal.logistic (gate W x h ⟨256 + u.val, by omega⟩) * c u
    + Ideal.logistic (gate W x h ⟨u.val, by omega⟩) * Ideal.tanh (gate W x h ⟨512 + u.val, by omega⟩)

/-- The next hidden state. -/
def nextH (h c : Fin 256 → EReal) (u : Fin 256) : EReal :=
  Ideal.logistic (gate W x h ⟨768 + u.val, by omega⟩) * Ideal.tanh (nextC W x h c u)

/-- The hidden and the cell state after `n` steps. -/
def states (h c : Fin 256 → EReal) : ℕ → (Fin 256 → EReal) × (Fin 256 → EReal)
  | 0 => (h, c)
  | n + 1 => (nextH W x (states h c n).1 (states h c n).2, nextC W x (states h c n).1 (states h c n).2)

/-- The output of step `t`. -/
def output (fc : Fin 256 → EReal) (fcb : EReal) (h c : Fin 256 → EReal) (t : ℕ) : EReal :=
  (∑ u : Fin 256, (states W x h c (t + 1)).1 u * fc u) + fcb

/-! ## The order and the scale of the kernel's gate columns -/

/-- The gate row that a kernel column holds: input, candidate, forget, output. -/
def ord (j : Fin 1024) : Fin 1024 :=
  if j.val < 256 then j else if h : j.val < 512 then ⟨j.val + 256, by omega⟩ else if j.val < 768 then ⟨j.val - 256, by omega⟩ else j

/-- The scale of a kernel column: one half but for the candidate's columns. -/
def sc (j : Fin 1024) : EReal := if j.val < 256 then oneHalf else if j.val < 512 then 1 else oneHalf

/-- Every scale is positive. -/
theorem sc_pos (j : Fin 1024) : 0 < sc j := by
  have h : (0 : EReal) < oneHalf := EReal.coe_pos.mpr (by norm_num)
  unfold sc
  split
  · exact h
  · split
    · exact zero_lt_one
    · exact h

/-- Every scale is finite. -/
theorem sc_ne_top (j : Fin 1024) : sc j ≠ ⊤ := by
  unfold sc
  split
  · exact half_ne_top
  · split
    · exact EReal.coe_ne_top 1
    · exact half_ne_top

/-- The first 256 columns hold the input gate. -/
theorem ord_i (u : Fin 256) (h : u.val < 1024) : ord ⟨u.val, h⟩ = ⟨u.val, h⟩ := by unfold ord; rw [if_pos u.isLt]
/-- The next 256 columns hold the candidate. -/
theorem ord_g (u : Fin 256) (h : 256 + u.val < 1024) : ord ⟨256 + u.val, h⟩ = ⟨512 + u.val, by omega⟩ := by
  unfold ord; rw [if_neg (by simp), dif_pos (by simp; omega)]; exact Fin.ext (by simp; omega)
/-- The next 256 columns hold the forget gate. -/
theorem ord_f (u : Fin 256) (h : 512 + u.val < 1024) : ord ⟨512 + u.val, h⟩ = ⟨256 + u.val, by omega⟩ := by
  unfold ord; rw [if_neg (by simp; omega), dif_neg (by simp), if_pos (by simp; omega)]; exact Fin.ext (by simp; omega)
/-- The last 256 columns hold the output gate. -/
theorem ord_o (u : Fin 256) (h : 768 + u.val < 1024) : ord ⟨768 + u.val, h⟩ = ⟨768 + u.val, h⟩ := by
  unfold ord; rw [if_neg (by simp; omega), dif_neg (by simp; omega), if_neg (by simp)]

/-- The input gate's columns are halved. -/
theorem sc_i (u : Fin 256) (h : u.val < 1024) : sc ⟨u.val, h⟩ = oneHalf := by unfold sc; rw [if_pos u.isLt]
/-- The candidate's columns keep their scale. -/
theorem sc_g (u : Fin 256) (h : 256 + u.val < 1024) : sc ⟨256 + u.val, h⟩ = 1 := by
  unfold sc; rw [if_neg (by simp), if_pos (by simp; omega)]
/-- The forget gate's columns are halved. -/
theorem sc_f (u : Fin 256) (h : 512 + u.val < 1024) : sc ⟨512 + u.val, h⟩ = oneHalf := by
  unfold sc; rw [if_neg (by simp; omega), if_neg (by simp)]
/-- The output gate's columns are halved. -/
theorem sc_o (u : Fin 256) (h : 768 + u.val < 1024) : sc ⟨768 + u.val, h⟩ = oneHalf := by
  unfold sc; rw [if_neg (by simp; omega), if_neg (by simp; omega)]

/-- A kernel column's sum, from the doubled hidden state and the scaled and halved weights, is the gate times the column's scale. -/
theorem column_sum (h : Fin 256 → EReal) (j : Fin 1024) :
    (∑ k : Fin 256, (two * h k) * (W (ord j) k * sc j * oneHalf)) + sc j * x (ord j) = sc j * gate W x h (ord j) := by
  unfold gate
  rw [EReal.left_distrib_of_nonneg_of_ne_top (sc_pos j).le (sc_ne_top j), ← sum_scale (sc_pos j).le (sc_ne_top j), add_comm]
  congr 1
  exact Finset.sum_congr rfl fun k _ => doubled_mul _ _ _

/-- The three columns of the kernel's input product are the input's part of the gate times the scale, the bias below infinity. -/
theorem input_sum (v w b1 b2 s : EReal) (h0 : 0 < s) (ht : s ≠ ⊤) (hb : b1 + b2 ≠ ⊤) :
    v * (w * s) + (1 * ((b1 + b2) * s) + 1 * ((b1 + b2) * s - (b1 + b2) * s)) = s * ((v * w + b1) + b2) := by
  rw [one_mul, one_mul, bias_split _ (mul_ne_top h0 ht hb), add_assoc (v * w) b1 b2,
    EReal.left_distrib_of_nonneg_of_ne_top h0.le ht]
  congr 1
  · ac_rfl
  · exact mul_comm _ _

/-- The kernel's next cell state, from its three scaled gates, is the plain one. -/
theorem cell_eq (h c : Fin 256 → EReal) (u : Fin 256) :
    oneHalf * ((Ideal.tanh (oneHalf * gate W x h ⟨256 + u.val, by omega⟩) + 1) * c u
      + (Ideal.tanh (oneHalf * gate W x h ⟨u.val, by omega⟩) + 1) * Ideal.tanh (1 * gate W x h ⟨512 + u.val, by omega⟩))
      = nextC W x h c u := by
  unfold nextC
  rw [half_add, ← mul_assoc, ← mul_assoc, half_tanh, half_tanh, one_mul]

/-- The kernel's next hidden state is twice the plain one. -/
theorem hidden_eq (h c : Fin 256 → EReal) (u : Fin 256) :
    (Ideal.tanh (oneHalf * gate W x h ⟨768 + u.val, by omega⟩) + 1) * Ideal.tanh (nextC W x h c u) = two * nextH W x h c u := by
  unfold nextH
  rw [tanh_succ, mul_assoc]

end Cert.Proof

end
-- ==== Proof.Pay.lean ====
module

public import proofs.«01_k».proof.Proof.Acc
public import proofs.«01_k».proof.Proof.Cell
public import Idealize.ShloMosaic.Lib.Pointwise
public import Idealize.ShloMosaic.Lib.Pipeline.ValueKit.Tiles

@[expose] public section

noncomputable section

/-! # What a chunk computes over the extended reals, entry by entry -/

namespace Cert.Proof.KernelIdeal

open Cert.KernelIdeal Cert.KernelIdeal.Gen
open Idealize.ShloMosaic

/-- The next cell state at an entry. -/
theorem stepC_at (g : Chunk Ideal) (h : Vec Ideal S1024x256 .bf16) (c : Vec Ideal S1024x256 .f32) (r : Fin 1024) (u : Fin 256) :
    stepC g h c (ix2 r u) = oneHalf *
      ((Ideal.tanh ((∑ k : Fin 256, h (ix2 r k) * g.w2 (ix2 k ⟨u.val, by omega⟩)) + g.x2 (ix2 r ⟨u.val, by omega⟩)) + 1) * c (ix2 r u) +
        (Ideal.tanh ((∑ k : Fin 256, h (ix2 r k) * g.w1 (ix2 k ⟨u.val, by omega⟩)) + g.x1 (ix2 r ⟨u.val, by omega⟩)) + 1) *
          Ideal.tanh ((∑ k : Fin 256, h (ix2 r k) * g.w1 (ix2 k ⟨256 + u.val, by omega⟩)) + g.x1 (ix2 r ⟨256 + u.val, by omega⟩))) := by
  pointwise [stepC, k0_pay3, k0_pay2]
  rw [ofBits_half]

/-- The output gate's factor at an entry. -/
theorem gateO_at (g : Chunk Ideal) (h : Vec Ideal S1024x256 .bf16) (r : Fin 1024) (u : Fin 256) :
    k0_pay4 h g.w2 g.x2 (ix2 r u)
      = Ideal.tanh ((∑ k : Fin 256, h (ix2 r k) * g.w2 (ix2 k ⟨256 + u.val, by omega⟩)) + g.x2 (ix2 r ⟨256 + u.val, by omega⟩)) + 1 := by
  pointwise [k0_pay4, k0_pay2]

/-- The next doubled hidden state at an entry. -/
theorem stepH_at (g : Chunk Ideal) (h : Vec Ideal S1024x256 .bf16) (c : Vec Ideal S1024x256 .f32) (r : Fin 1024) (u : Fin 256) :
    stepH g h c (ix2 r u) = k0_pay4 h g.w2 g.x2 (ix2 r u) * Ideal.tanh (stepC g h c (ix2 r u)) := by
  pointwise [stepH, k0_pay7, k0_pay5]

/-- The output of a step at an entry. -/
theorem score_at (g : Chunk Ideal) (fc : Vec Ideal S1x256 .f32) (fcb : Elt Ideal .f32)
    (p : Vec Ideal S1024x256 .bf16 × Vec Ideal S1024x256 .f32) (r : Fin 1024) (l : Fin 24) :
    score g fc fcb p (ix2 r l)
      = (∑ u : Fin 256, k0_pay4 p.1 g.w2 g.x2 (ix2 r u) * Ideal.tanh (stepC g p.1 p.2 (ix2 r u)) * fc (ix2 0 u)) + fcb := by
  pointwise [score, k0_pay5, k0_pay1]

/-- The input gates at an entry. -/
theorem input_at (x : Vec Ideal S2048x128 .bf16) (w : Vec Ideal S128x1024 .bf16) (r : Fin 2048) (j : Fin 1024) :
    k0_pay169 x w (ix2 r j) = ∑ k : Fin 128, x (ix2 r k) * w (ix2 k j) := by
  pointwise [k0_pay169]

/-- A chunk holds the recurrent weights `W` and, for its rows, the gates' input parts `X`, in the kernel's column order and scale. -/
structure Holds (g : Chunk Ideal) (W : Fin 1024 → Fin 256 → EReal) (X : Fin 1024 → Fin 1024 → EReal) : Prop where
  w1 : ∀ (k : Fin 256) (j : Fin 512), g.w1 (ix2 k j) = W (ord ⟨j.val, by omega⟩) k * sc ⟨j.val, by omega⟩ * oneHalf
  w2 : ∀ (k : Fin 256) (j : Fin 512), g.w2 (ix2 k j) = W (ord ⟨512 + j.val, by omega⟩) k * sc ⟨512 + j.val, by omega⟩ * oneHalf
  x1 : ∀ (r : Fin 1024) (j : Fin 512), g.x1 (ix2 r j) = sc ⟨j.val, by omega⟩ * X r (ord ⟨j.val, by omega⟩)
  x2 : ∀ (r : Fin 1024) (j : Fin 512), g.x2 (ix2 r j) = sc ⟨512 + j.val, by omega⟩ * X r (ord ⟨512 + j.val, by omega⟩)

section Rows
variable {g : Chunk Ideal} {W : Fin 1024 → Fin 256 → EReal} {X : Fin 1024 → Fin 1024 → EReal} (hg : Holds g W X)
  {h : Vec Ideal S1024x256 .bf16} {c : Vec Ideal S1024x256 .f32} {H C : Fin 1024 → Fin 256 → EReal}
  (hh : ∀ r u, h (ix2 r u) = two * H r u) (hc : ∀ r u, c (ix2 r u) = C r u)

include hg hh in
/-- A column of the first gate group is the gate it stands for, scaled. -/
theorem column1 (r : Fin 1024) (j : Fin 512) : (∑ k : Fin 256, h (ix2 r k) * g.w1 (ix2 k j)) + g.x1 (ix2 r j)
    = sc ⟨j.val, by omega⟩ * gate W (X r) (H r) (ord ⟨j.val, by omega⟩) := by
  rw [hg.x1, ← column_sum]
  congr 1
  exact Finset.sum_congr rfl fun k _ => by rw [hg.w1, hh]

include hg hh in
/-- A column of the second gate group is the gate it stands for, scaled. -/
theorem column2 (r : Fin 1024) (j : Fin 512) : (∑ k : Fin 256, h (ix2 r k) * g.w2 (ix2 k j)) + g.x2 (ix2 r j)
    = sc ⟨512 + j.val, by omega⟩ * gate W (X r) (H r) (ord ⟨512 + j.val, by omega⟩) := by
  rw [hg.x2, ← column_sum]
  congr 1
  exact Finset.sum_congr rfl fun k _ => by rw [hg.w2, hh]

include hg hh hc in
/-- The chunk's next cell state is the plain one of its rows. -/
theorem stepC_eq (r : Fin 1024) (u : Fin 256) : stepC g h c (ix2 r u) = nextC W (X r) (H r) (C r) u := by
  have hu : u.val < 256 := u.isLt
  rw [stepC_at, column1 hg hh, column1 hg hh, column2 hg hh, hc, ← cell_eq]
  simp only [sc_i u (by omega), ord_i u (by omega), sc_g u (by omega), ord_g u (by omega), sc_f u (by omega), ord_f u (by omega)]

include hg hh hc in
/-- The output gate's factor times the cell's `tanh` is twice the plain next hidden state. -/
theorem hidden_at (r : Fin 1024) (u : Fin 256) :
    k0_pay4 h g.w2 g.x2 (ix2 r u) * Ideal.tanh (stepC g h c (ix2 r u)) = two * nextH W (X r) (H r) (C r) u := by
  have hu : u.val < 256 := u.isLt
  have e : (⟨512 + (256 + u.val), by omega⟩ : Fin 1024) = ⟨768 + u.val, by omega⟩ := Fin.ext (by show 512 + (256 + u.val) = 768 + u.val; omega)
  rw [gateO_at, column2 hg hh, stepC_eq hg hh hc, ← hidden_eq]
  simp only [e, sc_o u (by omega), ord_o u (by omega)]

include hg hh hc in
/-- The chunk's states after `n` steps: the hidden state doubled, the cell state plain. -/
theorem st_eq (n : ℕ) : (∀ r u, (st g h c n).1 (ix2 r u) = two * (states W (X r) (H r) (C r) n).1 u)
    ∧ ∀ r u, (st g h c n).2 (ix2 r u) = (states W (X r) (H r) (C r) n).2 u := by
  induction n with
  | zero => exact ⟨hh, hc⟩
  | succ n ih =>
    refine ⟨fun r u => ?_, fun r u => ?_⟩
    · show stepH g _ _ (ix2 r u) = _
      rw [stepH_at]
      exact hidden_at hg (H := fun r => (states W (X r) (H r) (C r) n).1) (C := fun r => (states W (X r) (H r) (C r) n).2) ih.1 ih.2 r u
    · exact stepC_eq hg (H := fun r => (states W (X r) (H r) (C r) n).1) (C := fun r => (states W (X r) (H r) (C r) n).2) ih.1 ih.2 r u

include hg hh hc in
/-- What a chunk gives: in row `r` and lane `l` the plain output of step `l`. -/
theorem half_eq {fc : Vec Ideal S1x256 .f32} {f : Fin 256 → EReal} (hf : ∀ u, fc (ix2 0 u) = oneHalf * f u) (fcb : Elt Ideal .f32)
    (r : Fin 1024) (l : Fin 24) : half g fc fcb h c (ix2 r l) = output W (X r) f fcb (H r) (C r) l.val := by
  unfold half output
  rw [score_at]
  have hs := st_eq hg hh hc l.val
  show (∑ u : Fin 256, k0_pay4 (st g h c l.val).1 g.w2 g.x2 (ix2 r u) * Ideal.tanh (stepC g (st g h c l.val).1 (st g h c l.val).2 (ix2 r u)) * fc (ix2 0 u)) + fcb = _
  congr 1
  refine Finset.sum_congr rfl fun u _ => ?_
  rw [hidden_at hg (H := fun r => (states W (X r) (H r) (C r) l.val).1) (C := fun r => (states W (X r) (H r) (C r) l.val).2) hs.1 hs.2, hf,
    mul_mul_mul_comm, two_half, one_mul]
  rfl

end Rows

end Cert.Proof.KernelIdeal

end
-- ==== Proof.BlockValue.lean ====
module

public import proofs.«01_k».proof.Proof.Pay

@[expose] public section

noncomputable section

/-! # What one grid point's block of results holds -/

namespace Cert.Proof.KernelIdeal

open Cert.KernelIdeal Cert.KernelIdeal.Gen
open Idealize.ShloMosaic

/-- A window read at an entry, the entry's place in the whole array given by its two coordinates. -/
theorem ld_at {e : EltTy} {R C a b : ℕ} {n0 n1 : ℕ} (X : (⟨2, ![R, C]⟩ : Shape).Idx → Elt Ideal e)
    (inb : ∀ i, (![n0, n1] : Fin 2 → Nat) i + (![a, b] : Fin 2 → Nat) i ≤ (⟨2, ![R, C]⟩ : Shape).size i)
    (r : Fin a) (j : Fin b) (hr : n0 + r.val < R) (hj : n1 + j.val < C) :
    View.ld (Val := Elt Ideal) X (Rect.unit ![n0, n1] ![a, b] inb) (ix2 r j) = X (ix2 ⟨n0 + r.val, hr⟩ ⟨n1 + j.val, hj⟩) :=
  View.ld_unit_apply_of X _ _ inb (ix2 r j) (ix2 ⟨n0 + r.val, hr⟩ ⟨n1 + j.val, hj⟩) fun i => by
    match i with
    | ⟨0, _⟩ => rfl
    | ⟨1, _⟩ => rfl

/-- The input product's row: three columns carry the input and the two parts of the bias, the weights' other rows are zero. -/
theorem product_at {x1 : Vec Ideal S2048x128 .bf16} {x5 : Vec Ideal S128x1024 .bf16} {r : Fin 2048} {j : Fin 1024} {v w b1 b2 s : EReal}
    (hv : x1 (ix2 r 0) = v) (h1 : x1 (ix2 r 1) = 1) (h2 : x1 (ix2 r 2) = 1)
    (w0 : x5 (ix2 0 j) = w * s) (w1 : x5 (ix2 1 j) = (b1 + b2) * s) (w2 : x5 (ix2 2 j) = (b1 + b2) * s - (b1 + b2) * s)
    (wz : ∀ k : Fin 128, 3 ≤ k.val → x5 (ix2 k j) = 0) (h0 : 0 < s) (ht : s ≠ ⊤) (hb : b1 + b2 ≠ ⊤) :
    k0_pay169 x1 x5 (ix2 r j) = s * ((v * w + b1) + b2) := by
  rw [input_at, ← input_sum v w b1 b2 s h0 ht hb, Fin.sum_univ_succ, Fin.sum_univ_succ, Fin.sum_univ_succ]
  have z : ∑ k : Fin 125, x1 (ix2 r k.succ.succ.succ) * x5 (ix2 k.succ.succ.succ j) = 0 :=
    Finset.sum_eq_zero fun k _ => by
      rw [wz k.succ.succ.succ (by simp only [Fin.val_succ]; omega), mul_zero]
  rw [z, add_zero]
  show x1 (ix2 r 0) * x5 (ix2 0 j) + (x1 (ix2 r 1) * x5 (ix2 1 j) + x1 (ix2 r 2) * x5 (ix2 2 j)) = _
  rw [hv, h1, h2, w0, w1, w2]

section Block
variable {x1 : Vec Ideal S2048x128 .bf16} {x2 : Vec Ideal S2048x256 .bf16} {x3 : Vec Ideal S2048x256 .f32} {x4 : Vec Ideal S256x1024 .bf16}
  {x5 : Vec Ideal S128x1024 .bf16} {x6 : Vec Ideal S1x256 .f32} {x7 : Vec Ideal S1 .f32}
  {W : Fin 1024 → Fin 256 → EReal} {X : Fin 2048 → Fin 1024 → EReal} {H C : Fin 2048 → Fin 256 → EReal} {f : Fin 256 → EReal} {b : EReal}
  (hw : ∀ k j, x4 (ix2 k j) = W (ord j) k * sc j * oneHalf)
  (hx : ∀ r j, k0_pay169 x1 x5 (ix2 r j) = sc j * X r (ord j))
  (hh : ∀ r u, x2 (ix2 r u) = two * H r u) (hc : ∀ r u, x3 (ix2 r u) = C r u)
  (hf : ∀ u, x6 (ix2 0 u) = oneHalf * f u) (hb : ∀ i : S1.Idx, x7 i = b)

include hw hx in
/-- The first half's chunk. -/
theorem holds_top : Holds (topChunk x4 (k0_pay169 x1 x5)) W (fun r => X ⟨r.val, by omega⟩) where
  w1 k j := by
    refine (ld_at x4 _ k j (by omega) (by omega)).trans ((hw _ _).trans ?_)
    simp only [Nat.zero_add]
  w2 k j := by
    refine (ld_at x4 _ k j (by omega) (by omega)).trans ((hw _ _).trans ?_)
    simp only [Nat.zero_add]
  x1 r j := by
    refine (ld_at (e := .f32) (R := 2048) (C := 1024) (n0 := 0) (n1 := 0) (k0_pay169 x1 x5) _ r j (by omega) (by omega)).trans ((hx _ _).trans ?_)
    simp only [Nat.zero_add]
  x2 r j := by
    refine (ld_at (e := .f32) (R := 2048) (C := 1024) (n0 := 0) (n1 := 512) (k0_pay169 x1 x5) _ r j (by omega) (by omega)).trans ((hx _ _).trans ?_)
    simp only [Nat.zero_add]

include hw hx in
/-- The second half's chunk. -/
theorem holds_bot : Holds (botChunk x4 (k0_pay169 x1 x5)) W (fun r => X ⟨1024 + r.val, by omega⟩) where
  w1 k j := by
    refine (ld_at x4 _ k j (by omega) (by omega)).trans ((hw _ _).trans ?_)
    simp only [Nat.zero_add]
  w2 k j := by
    refine (ld_at x4 _ k j (by omega) (by omega)).trans ((hw _ _).trans ?_)
    simp only [Nat.zero_add]
  x1 r j := by
    refine (ld_at (e := .f32) (R := 2048) (C := 1024) (n0 := 1024) (n1 := 0) (k0_pay169 x1 x5) _ r j (by omega) (by omega)).trans ((hx _ _).trans ?_)
    simp only [Nat.zero_add]
  x2 r j := by
    refine (ld_at (e := .f32) (R := 2048) (C := 1024) (n0 := 1024) (n1 := 512) (k0_pay169 x1 x5) _ r j (by omega) (by omega)).trans ((hx _ _).trans ?_)
    simp only

include hw hx hh hc hf hb in
/-- The block of results: row `r`, lane `l` is the plain output of step `l` for that row. -/
theorem out_at (r : Fin 2048) (l : Fin 24) :
    out x1 x2 x3 x4 x5 x6 x7 (ix2 r l) = output W (X r) f b (H r) (C r) l.val := by
  unfold out
  refine View.canon_eq_of_allAt _ _ _ ?_
    (View.allAt_cons_unit _ _ _ _ _ ?_ (View.allAt_cons_unit _ _ _ _ _ ?_ (View.allAt_nil _ _)))
  · refine View.cover_of_tiled (Val := Elt Ideal) (s := S2048x24) (e := .f32) _ S1024x24.size ?_ _
    rfl
  · intro y hy
    have e0 : r.val = 1024 + (y 0).val := hy 0
    have e1 : l.val = 0 + (y 1).val := hy 1
    have hyr : (y 0).val < 1024 := (y 0).isLt
    have hyl : (y 1).val < 24 := (y 1).isLt
    have ey : y = ix2 (⟨(y 0).val, hyr⟩ : Fin 1024) (⟨(y 1).val, hyl⟩ : Fin 24) := by
      funext i; match i with
      | ⟨0, _⟩ => rfl
      | ⟨1, _⟩ => rfl
    rw [ey]
    unfold botHalf
    rw [half_eq (holds_bot hw hx) (H := fun r => H ⟨1024 + r.val, by omega⟩) (C := fun r => C ⟨1024 + r.val, by omega⟩)
      (fun r u => by refine (ld_at x2 _ r u (by omega) (by omega)).trans ((hh _ _).trans ?_); simp only [Nat.zero_add])
      (fun r u => by refine (ld_at x3 _ r u (by omega) (by omega)).trans ((hc _ _).trans ?_); simp only [Nat.zero_add]) hf, hb]
    have er : r = ⟨1024 + (y 0).val, by omega⟩ := Fin.ext e0
    have el : l.val = (y 1).val := by omega
    rw [el, er]
  · intro y hy
    have e0 : r.val = 0 + (y 0).val := hy 0
    have e1 : l.val = 0 + (y 1).val := hy 1
    have hyr : (y 0).val < 1024 := (y 0).isLt
    have hyl : (y 1).val < 24 := (y 1).isLt
    have ey : y = ix2 (⟨(y 0).val, hyr⟩ : Fin 1024) (⟨(y 1).val, hyl⟩ : Fin 24) := by
      funext i; match i with
      | ⟨0, _⟩ => rfl
      | ⟨1, _⟩ => rfl
    rw [ey]
    unfold topHalf
    rw [half_eq (holds_top hw hx) (H := fun r => H ⟨r.val, by omega⟩) (C := fun r => C ⟨r.val, by omega⟩)
      (fun r u => by refine (ld_at x2 _ r u (by omega) (by omega)).trans ((hh _ _).trans ?_); simp only [Nat.zero_add])
      (fun r u => by refine (ld_at x3 _ r u (by omega) (by omega)).trans ((hc _ _).trans ?_); simp only [Nat.zero_add]) hf, hb]
    have er : r = ⟨(y 0).val, by omega⟩ := Fin.ext (by simpa using e0)
    have el : l.val = (y 1).val := by omega
    rw [el, er]

end Block

end Cert.Proof.KernelIdeal

end
-- ==== Proof.HostOps.lean ====
module

public import Idealize.ShloMosaic.Lib.Routing.OpsOne

@[expose] public section

/-! # Host gathers and scatters read at an entry

The forms the kernel's set-up uses: a take of columns, a take of single entries, and the setting of one row or one column. -/

namespace Cert.Proof

open Idealize.ShloMosaic Idealize.ShloMosaic.ValueIdx Idealize.ShloMosaic.Routing

variable {α : Type}

/-- `table[:, idx]`: where `idx` holds the column number `b`, column `p` of the result is the table's column `b`. -/
theorem gather_columns {A N n : Nat} (d : GatherDims (shape2 A N) (shape2 n 1) (shape2 A n)) (hoff : d.offsetDims = [0])
    (hcoll : d.collapsedSliceDims = [1]) (hob : d.operandBatchingDims = []) (hsim : d.startIndexMap = [1]) (hivd : d.indexVectorDim = 1)
    (x : (shape2 A N).Idx → α) (idx : IVec (shape2 n 1) 32) (y : Fin A) (p : Fin n) (b : Fin N)
    (hb : idx (ix2 p (0 : Fin 1)) = BitVec.ofNat 32 b.val) (hN : N < 2 ^ 31) :
    Host.gather d x idx (ix2 y p) = x (ix2 y b) := by
  unfold Host.gather
  refine congrArg x (funext fun a => Fin.ext ?_)
  have hnb : ∀ a', a' ∉ d.operandBatchingDims := fun a' => by rw [hob]; exact List.not_mem_nil
  have hbatch : ∀ k ∈ d.batchDims, k = (1 : Fin 2) := fun k hk => by
    have h0 : k ∉ d.offsetDims := of_decide_eq_true (List.mem_filter.1 hk).2
    rw [hoff] at h0
    have h1 : k.val ≠ 0 := fun e => h0 (List.mem_singleton.2 (Fin.ext e))
    have h2 : k.val < 2 := k.isLt
    exact Fin.ext (by show k.val = 1; omega)
  have hwin : ∀ k ∈ d.offsetDims, k = (0 : Fin 2) := fun k hk => by rw [hoff] at hk; exact List.mem_singleton.1 hk
  have e1 : ∀ k : Fin 2, k = 1 → (ix2 y p k).val = p.val := fun k h => by subst h; rfl
  have e0 : ∀ k : Fin 2, k = 0 → (ix2 y p k).val = y.val := fun k h => by subst h; rfl
  match a with
  | ⟨0, _⟩ =>
    have hk : (0 : Fin 2) ∈ d.sKept := (d.mem_sKept 0).2 ⟨by rw [hcoll]; simp, hnb 0⟩
    have hm : (0 : Fin 2) ∉ d.startIndexMap := by rw [hsim]; simp
    show d.start (ix2 y p) idx 0 + d.batchCoord (ix2 y p) 0 + d.offCoord (ix2 y p) 0 = y.val
    rw [d.batchCoord_eq_zero _ _ (hnb 0)]
    unfold GatherDims.start GatherDims.offCoord
    rw [dif_neg hm, dif_pos hk]
    simp only [Nat.zero_add, Nat.add_zero]
    exact e0 _ (hwin _ (List.getElem_mem _))
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y p) idx 1 + d.batchCoord (ix2 y p) 1 + d.offCoord (ix2 y p) 1 = b.val
    rw [d.batchCoord_eq_zero _ _ (hnb 1), d.offCoord_eq_zero _ _ hk]
    simp only [Nat.add_zero]
    unfold GatherDims.start
    rw [dif_pos hm]
    have hsi : d.siIdx (ix2 y p) ⟨d.startIndexMap.idxOf 1, List.idxOf_lt_length_iff.2 hm⟩ = ix2 p (0 : Fin 1) := by
      funext q
      apply Fin.ext
      match q with
      | ⟨0, _⟩ =>
        unfold GatherDims.siIdx
        rw [dif_neg (by rw [hivd]; exact Nat.zero_ne_one)]
        unfold GatherDims.siCoord
        simp only [Fin.val_cast]
        exact e1 _ (hbatch _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (N - 1) = b.val
    omega

/-- `table[idx, 0]` of a one-column table: where `idx` holds the row number `b`, entry `p` of the result is the table's row `b`. -/
theorem gather_cells {N n : Nat} (d : GatherDims (shape2 N 1) (shape2 n 2) (shape1 n)) (hoff : d.offsetDims = [])
    (hcoll : d.collapsedSliceDims = [0, 1]) (hob : d.operandBatchingDims = []) (hsim : d.startIndexMap = [0, 1]) (hivd : d.indexVectorDim = 1)
    (x : (shape2 N 1).Idx → α) (idx : IVec (shape2 n 2) 32) (p : Fin n) (b : Fin N)
    (hb : idx (ix2 p (0 : Fin 2)) = BitVec.ofNat 32 b.val) (hN : N < 2 ^ 31) :
    Host.gather d x idx (ix1 p) = x (ix2 b (0 : Fin 1)) := by
  unfold Host.gather
  refine congrArg x (funext fun a => ?_)
  match a with
  | ⟨1, _⟩ => exact Subsingleton.elim (α := Fin 1) _ _
  | ⟨0, _⟩ =>
    refine Fin.ext ?_
    have hnb : ∀ a', a' ∉ d.operandBatchingDims := fun a' => by rw [hob]; exact List.not_mem_nil
    have hk : (0 : Fin 2) ∉ d.sKept := fun h => ((d.mem_sKept 0).1 h).1 (by rw [hcoll]; simp)
    have hm : (0 : Fin 2) ∈ d.startIndexMap := by rw [hsim]; simp
    have hsl : d.sliceSizes 0 = 1 := d.slice_collapsed 0 (by rw [hcoll]; simp)
    show d.start (ix1 p) idx 0 + d.batchCoord (ix1 p) 0 + d.offCoord (ix1 p) 0 = b.val
    rw [d.batchCoord_eq_zero _ _ (hnb 0), d.offCoord_eq_zero _ _ hk]
    simp only [Nat.add_zero]
    unfold GatherDims.start
    rw [dif_pos hm]
    have e1 : ∀ k : Fin 1, (ix1 p k).val = p.val := fun k => by obtain rfl : k = 0 := Subsingleton.elim _ _; rfl
    have hsi : d.siIdx (ix1 p) ⟨d.startIndexMap.idxOf 0, List.idxOf_lt_length_iff.2 hm⟩ = ix2 p (0 : Fin 2) := by
      funext q
      apply Fin.ext
      match q with
      | ⟨0, _⟩ =>
        unfold GatherDims.siIdx
        rw [dif_neg (by rw [hivd]; exact Nat.zero_ne_one)]
        unfold GatherDims.siCoord
        simp only [Fin.val_cast]
        exact e1 _
      | ⟨1, _⟩ =>
        unfold GatherDims.siIdx
        rw [dif_pos (by rw [hivd])]
        show List.idxOf (0 : Fin 2) d.startIndexMap = 0
        rw [hsim]; simp
    have hbl := b.isLt
    rw [hsi, hb, hsl, StableHlo.Predicate.toInt_ofNat_small _ (by omega)]
    show min ((b.val : Int)).toNat (N - 1) = b.val
    omega

/-- `x.at[:, k].set(v)` read at an entry, at any element type. -/
theorem scatter_column {A N : Nat} (d : ScatterDims (shape2 A N) (shape1 1) (shape1 A)) (hiw : d.insertedWindowDims = [1])
    (hsd : d.scatterDimsToOperandDims = [1]) (x0 : (shape2 A N).Idx → α) (idx : IVec (shape1 1) 32) (upd : (shape1 A).Idx → α)
    (k : Fin N) (hidx : (idx (ix1 0)).toInt = (k.val : Int)) (w : Fin A) (e : Fin N) :
    Host.scatter d (fun _ b => b) x0 idx upd (ix2 w e) = if e = k then upd (ix1 w) else x0 (ix2 w e) := by
  have lands : ∀ j : (shape1 A).Idx, d.resultIdx? j idx = some (ix2 w e) → j 0 = w ∧ e = k := fun j hj =>
    (lands_col d hiw hsd idx k hidx (j 0) w e).1 ((congrArg (fun t => d.resultIdx? t idx) (eq_ix1 j).symm).trans hj)
  split
  · next h =>
    exact scatter_set_hit d x0 idx upd _ _ (fun j hj => (congrArg upd (eq_ix1 j)).trans (congrArg (fun t => upd (ix1 t)) (lands j hj).1)) (ix1 w)
      ((lands_col d hiw hsd idx k hidx w w e).2 ⟨rfl, h⟩)
  · next h => exact scatter_set_miss d x0 idx upd _ fun j hj => h (lands j hj).2

/-- Update `w'` of `x.at[k].set(v)` over a matrix lands at `(e, w)` exactly when `w` is `w'` and `e` is `k`. -/
theorem lands_row {N A : Nat} (d : ScatterDims (shape2 N A) (shape1 1) (shape1 A)) (hiw : d.insertedWindowDims = [0])
    (hsd : d.scatterDimsToOperandDims = [0]) (idx : IVec (shape1 1) 32) (k : Fin N) (hidx : (idx (ix1 0)).toInt = (k.val : Int))
    (w' w : Fin A) (e : Fin N) : d.resultIdx? (ix1 w') idx = some (ix2 e w) ↔ w' = w ∧ e = k := by
  have hm : (0 : Fin 2) ∈ d.scatterDimsToOperandDims := by rw [hsd]; exact List.mem_singleton.2 rfl
  have hkept : d.sKept = [1] := by
    show (shape2 N A).kept d.insertedWindowDims = _
    rw [hiw]
    rfl
  have hwin0 : d.window (ix1 w') 0 = 0 := by
    unfold ScatterDims.window
    rw [dif_neg fun h => (of_decide_eq_true (List.mem_filter.1 h).2) (by rw [hiw]; exact List.mem_singleton.2 rfl)]
  have hwin1 : d.window (ix1 w') 1 = w'.val := by
    unfold ScatterDims.window
    rw [dif_pos (by rw [hkept]; exact List.mem_singleton.2 rfl)]
    have q : ∀ X : Fin 1, (ix1 w' X).val = w'.val := fun X => by obtain rfl : X = 0 := Subsingleton.elim _ _; rfl
    exact q _
  have hstart1 : d.start (ix1 w') idx 1 = 0 := by
    unfold ScatterDims.start
    rw [dif_neg fun h => by rw [hsd] at h; simp at h]
  have hstart0 : d.start (ix1 w') idx 0 = (k.val : Int) := by
    unfold ScatterDims.start
    rw [dif_pos hm]
    have hsi : d.siIdx (ix1 w') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, Fin.ext_iff, resultIdx?_ix2, hstart0, hwin0, hstart1, hwin1]
  omega

/-- `x.at[k].set(v)` over a matrix, read at an entry: row `k` is `v`, every other row the operand's. -/
theorem scatter_row {N A : Nat} (d : ScatterDims (shape2 N A) (shape1 1) (shape1 A)) (hiw : d.insertedWindowDims = [0])
    (hsd : d.scatterDimsToOperandDims = [0]) (x0 : (shape2 N A).Idx → α) (idx : IVec (shape1 1) 32) (upd : (shape1 A).Idx → α)
    (k : Fin N) (hidx : (idx (ix1 0)).toInt = (k.val : Int)) (e : Fin N) (w : Fin A) :
    Host.scatter d (fun _ b => b) x0 idx upd (ix2 e w) = if e = k then upd (ix1 w) else x0 (ix2 e w) := by
  have lands : ∀ j : (shape1 A).Idx, d.resultIdx? j idx = some (ix2 e w) → j 0 = w ∧ e = k := fun j hj =>
    (lands_row d hiw hsd idx k hidx (j 0) w e).1 ((congrArg (fun t => d.resultIdx? t idx) (eq_ix1 j).symm).trans hj)
  split
  · next h =>
    exact scatter_set_hit d x0 idx upd _ _ (fun j hj => (congrArg upd (eq_ix1 j)).trans (congrArg (fun t => upd (ix1 t)) (lands j hj).1)) (ix1 w)
      ((lands_row d hiw hsd idx k hidx w w e).2 ⟨rfl, h⟩)
  · next h => exact scatter_set_miss d x0 idx upd _ fun j hj => h (lands j hj).2

end Cert.Proof
-- ==== Proof.HostValue.lean ====
module

public import proofs.«01_k».proof.Proof.Gen.KernelIdeal.Frame
public import proofs.«01_k».proof.Proof.HostOps
public import proofs.«01_k».proof.Proof.Cell
public import Idealize.ShloMosaic.Lib.Claim
public import Idealize.ShloMosaic.Lib.Pointwise
public import Idealize.ShloMosaic.Lib.StableHlo.ReadAt

@[expose] public section

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ)

/-- What a buffer holds when the grid starts: the host operations before it, run on the arguments. -/
theorem V_apply (c : Dev nD) (b : Ref sig .tc) : V m c b
   = StableHlo.after (hostOps0 ++ (hostOps0_1 ++ hostOps0_2)) (fun b => m (c, b)) (Proc.devRef .tc b) := by
  show StableHlo.after (List.flatten [hostOps0, hostOps0_1, hostOps0_2]) (fun b => m (c, b)) (Proc.devRef .tc b) = _
  simp only [List.flatten_cons, List.flatten_nil, List.append_nil]

/-- Argument 0 of device `c`, the input, as an array of extended reals. -/
abbrev arg0 (c : Dev nD) : FVec Ideal S1x32768x1 .f32 := m (c, Proc.devRef .tc main_arg0)
/-- Argument 1 of device `c`, the hidden state, as an array of extended reals. -/
abbrev arg1 (c : Dev nD) : FVec Ideal S1x32768x256 .f32 := m (c, Proc.devRef .tc main_arg1)
/-- Argument 2 of device `c`, the cell state, as an array of extended reals. -/
abbrev arg2 (c : Dev nD) : FVec Ideal S1x32768x256 .f32 := m (c, Proc.devRef .tc main_arg2)
/-- Argument 3 of device `c`, the input's weights, as an array of extended reals. -/
abbrev arg3 (c : Dev nD) : FVec Ideal S1024x1 .f32 := m (c, Proc.devRef .tc main_arg3)
/-- Argument 4 of device `c`, the recurrent weights, as an array of extended reals. -/
abbrev arg4 (c : Dev nD) : FVec Ideal S1024x256 .f32 := m (c, Proc.devRef .tc main_arg4)
/-- Argument 5 of device `c`, the first bias, as an array of extended reals. -/
abbrev arg5 (c : Dev nD) : FVec Ideal S1024 .f32 := m (c, Proc.devRef .tc main_arg5)
/-- Argument 6 of device `c`, the second bias, as an array of extended reals. -/
abbrev arg6 (c : Dev nD) : FVec Ideal S1024 .f32 := m (c, Proc.devRef .tc main_arg6)
/-- Argument 7 of device `c`, the head's weights, as an array of extended reals. -/
abbrev arg7 (c : Dev nD) : FVec Ideal S1x256 .f32 := m (c, Proc.devRef .tc main_arg7)
/-- Argument 8 of device `c`, the head's bias, as an array of extended reals. -/
abbrev arg8 (c : Dev nD) : FVec Ideal S1 .f32 := m (c, Proc.devRef .tc main_arg8)

/-- Entry `j` of the permutation is the gate row that column `j` holds. -/
theorem v10_at (c : Dev nD) (j : Fin 1024) : (show IVec S1024 32 from V m c main_v10) (ix1 j) = BitVec.ofNat 32 (ord j).val := by
  rw [V_apply]
  after_reads_simp
  pointwise
  after_reads_simp
  pointwise
  have hj := j.isLt
  unfold ord IntOp.addi
  split
  · rfl
  · split
    · next h =>
      rw [dif_pos (show j.val < 512 by omega), ← BitVec.ofNat_add]
      congr 1
      simp only
      omega
    · next h =>
      rw [dif_neg (show ¬ j.val < 512 by omega)]
      split
      · rw [if_pos (show j.val < 768 by omega), ← BitVec.ofNat_add]
        congr 1
        simp only
        omega
      · rw [if_neg (show ¬ j.val < 768 by omega), ← BitVec.ofNat_add]
        congr 1
        omega

/-- Entry `j` of the scales is the scale of column `j`. -/
theorem v14_at (c : Dev nD) (j : Fin 1024) : (show FVec Ideal S1024 .f32 from V m c main_v14) (ix1 j) = sc j := by
  rw [V_apply]
  after_reads_simp
  pointwise
  after_reads_simp
  pointwise
  have hj := j.isLt
  unfold sc
  rw [ofBits_half]
  split
  · rfl
  · split
    · rw [if_pos (by omega)]
    · rw [if_neg (by omega)]

/-- The permutation, made safe against negative entries, is the permutation: it has none. -/
theorem index_at (P : IVec S1024 32) (hP : ∀ j : Fin 1024, P (ix1 j) = BitVec.ofNat 32 (ord j).val) (j : Fin 1024) :
   select (cmpi .slt P (broadcastInDim S1024 ![] bcast_S_S1024 (constantI S_ 32 0#32)))
          (addi P (broadcastInDim S1024 ![] bcast_S_S1024 (constantI S_ 32 1024#32))) P (ix1 j) = BitVec.ofNat 32 (ord j).val := by
  pointwise
  rw [hP]
  have h : ∀ n : Fin 1024, Scalar.select (IntOp.cmpi CmpIPredicate.slt (BitVec.ofNat 32 n.val) 0#32)
      (IntOp.addi (BitVec.ofNat 32 n.val) 1024#32) (BitVec.ofNat 32 n.val) = BitVec.ofNat 32 n.val := by
    intro n
    have hn : IntOp.cmpi CmpIPredicate.slt (BitVec.ofNat 32 n.val) 0#32 = 0#1 := by
      have := n.isLt
      unfold IntOp.cmpi
      simp only [BitVec.slt, StableHlo.Predicate.toInt_ofNat_small n.val (by omega)]
      rw [decide_eq_false (by rw [BitVec.toInt_zero]; omega)]
      rfl
    rw [hn]; rfl
  exact h _

/-- The recurrent weights that the kernel reads: permuted, scaled and halved. -/
theorem v28_at (c : Dev nD) (k : Fin 256) (j : Fin 1024) :
    (show FVec Ideal S256x1024 .bf16 from V m c main_v28) (ix2 k j)
      = (arg4 m c (ix2 (ord j) k) : EReal) * sc j * oneHalf := by
  have hP := v10_at m c
  have hS := v14_at m c
  obtain ⟨P, eP⟩ : ∃ P : IVec S1024 32, P = V m c main_v10 := ⟨_, rfl⟩
  obtain ⟨S, eS⟩ : ∃ S : FVec Ideal S1024 .f32, S = V m c main_v14 := ⟨_, rfl⟩
  simp only [← eP] at hP
  simp only [← eS] at hS
  rw [V_apply] at eP eS
  simp (disch := decide) only [StableHlo.readAfter, StableHlo.readUpto, StableHlo.nary_result'] at eP eS
  rw [V_apply]
  after_reads_simp
  rw [← eP, ← eS]
  have hg := gather_columns gather_S256x1024_S1024x1_S256x1024_0_1_n_n_1_1_2561 rfl rfl rfl rfl rfl
    (transpose S256x1024 [1, 0] (arg4 m c) transposes_S1024x256_S256x1024_1_0)
    (broadcastInDim S1024x1 ![0] bcast_S1024_S1024x1_0
      (select (cmpi .slt P (broadcastInDim S1024 ![] bcast_S_S1024 (constantI S_ 32 0#32)))
        (addi P (broadcastInDim S1024 ![] bcast_S_S1024 (constantI S_ 32 1024#32))) P))
    k j (ord j) (by pointwise; exact index_at P hP j) (by decide)
  generalize Host.gather gather_S256x1024_S1024x1_S256x1024_0_1_n_n_1_1_2561 _ _ = G at hg ⊢
  have hG : G (ix2 k j) = arg4 m c (ix2 (ord j) k) := hg.trans (by pointwise)
  pointwise
  rw [hG, hS, ofBits_half]

/-- The input weights that the kernel reads: the weights, the bias and the difference of the bias with itself, each scaled; the other rows are zero. -/
theorem v60_at (c : Dev nD) (k : Fin 128) (j : Fin 1024) :
    (show FVec Ideal S128x1024 .bf16 from V m c main_v60) (ix2 k j)
      = if k.val = 2 then
          ((arg5 m c (ix1 (ord j)) : EReal) + arg6 m c (ix1 (ord j))) * sc j - ((arg5 m c (ix1 (ord j)) : EReal) + arg6 m c (ix1 (ord j))) * sc j
        else if k.val = 1 then ((arg5 m c (ix1 (ord j)) : EReal) + arg6 m c (ix1 (ord j))) * sc j
        else if k.val = 0 then (arg3 m c (ix2 (ord j) 0) : EReal) * sc j else 0 := by
  have hP := v10_at m c
  have hS := v14_at m c
  obtain ⟨P, eP⟩ : ∃ P : IVec S1024 32, P = V m c main_v10 := ⟨_, rfl⟩
  obtain ⟨S, eS⟩ : ∃ S : FVec Ideal S1024 .f32, S = V m c main_v14 := ⟨_, rfl⟩
  simp only [← eP] at hP
  simp only [← eS] at hS
  rw [V_apply] at eP eS
  simp (disch := decide) only [StableHlo.readAfter, StableHlo.readUpto, StableHlo.nary_result'] at eP eS
  rw [V_apply]
  after_reads_simp
  rw [← eP, ← eS]
  generalize hT : concatenate S1024x2 1 _ _ = T
  have hT0 : T (ix2 j 0) = BitVec.ofNat 32 (ord j).val := by
    rw [← hT]
    pointwise
    after_reads_simp
    rw [← eP]
    pointwise
    exact index_at P hP j
  have hw := gather_cells gather_S1024x1_S1024x2_S1024_n_01_n_n_01_1_11 rfl rfl rfl rfl rfl (arg3 m c) T j (ord j) hT0 (by decide)
  generalize Host.gather gather_S1024x1_S1024x2_S1024_n_01_n_n_01_1_11 _ _ = G at hw ⊢
  have hb := Routing.gather_take1 gather_S1024_S1024x1_S1024_n_0_n_n_0_1_1 rfl rfl rfl rfl (addf (arg5 m c) (arg6 m c))
    (broadcastInDim S1024x1 ![0] bcast_S1024_S1024x1_0
      (select (cmpi .slt P (broadcastInDim S1024 ![] bcast_S_S1024 (constantI S_ 32 0#32)))
        (addi P (broadcastInDim S1024 ![] bcast_S_S1024 (constantI S_ 32 1024#32))) P))
    j (ord j) (by pointwise; exact index_at P hP j) (by decide)
  generalize Host.gather gather_S1024_S1024x1_S1024_n_0_n_n_0_1_1 _ _ = B at hb ⊢
  have hw' : G (ix1 j) = arg3 m c (ix2 (ord j) 0) := hw
  have hb' : B (ix1 j) = (arg5 m c (ix1 (ord j)) : EReal) + arg6 m c (ix1 (ord j)) := hb
  have e2 := fun x u => scatter_row (α := EReal) scatter_S128x1024_S1_S1024_0_0_0_0 rfl rfl x
    (broadcastInDim S1 ![] bcast_S_S1 (constantI S_ 32 2#32)) u 2 rfl k j
  have e1 := fun x u => scatter_row (α := EReal) scatter_S128x1024_S1_S1024_0_0_0_0 rfl rfl x
    (broadcastInDim S1 ![] bcast_S_S1 (constantI S_ 32 1#32)) u 1 rfl k j
  have e0 := fun x u => scatter_row (α := EReal) scatter_S128x1024_S1_S1024_0_0_0_0 rfl rfl x
    (broadcastInDim S1 ![] bcast_S_S1 (constantI S_ 32 0#32)) u 0 rfl k j
  pointwise
  refine (e2 _ _).trans ?_
  refine if_congr Fin.ext_iff ?_ ((e1 _ _).trans ?_)
  · show (subf _ _ : FVec Ideal S1024 .f32) (ix1 j) = _
    pointwise
    rw [hb', hS]
  refine if_congr Fin.ext_iff ?_ ((e0 _ _).trans ?_)
  · show (extf .f32 _ _ : FVec Ideal S1024 .f32) (ix1 j) = _
    pointwise
    rw [hb', hS]
  refine if_congr Fin.ext_iff ?_ ?_
  · show (mulf _ _ : FVec Ideal S1024 .f32) (ix1 j) = _
    pointwise
    rw [hw', hS]
  · show (broadcastInDim _ _ _ _ : FVec Ideal S128x1024 .f32) (ix2 k j) = _
    pointwise

/-- The input that the kernel reads: the input, two columns of ones and zeros. -/
theorem v69_at (c : Dev nD) (r : Fin 32768) (j : Fin 128) : (show FVec Ideal S32768x128 .bf16 from V m c main_v69) (ix2 r j) =
   if j.val = 2 then 1 else if j.val = 1 then 1 else if j.val = 0 then (arg0 m c (ix3 0 r 0) : EReal) else 0 := by
  rw [V_apply]
  after_reads_simp
  have e2 := fun x u => scatter_column (α := EReal) scatter_S32768x128_S1_S32768_0_1_1_0 rfl rfl x
    (broadcastInDim S1 ![] bcast_S_S1 (constantI S_ 32 2#32)) u 2 rfl r j
  have e1 := fun x u => scatter_column (α := EReal) scatter_S32768x128_S1_S32768_0_1_1_0 rfl rfl x
    (broadcastInDim S1 ![] bcast_S_S1 (constantI S_ 32 1#32)) u 1 rfl r j
  pointwise
  refine (e2 _ _).trans ?_
  refine if_congr Fin.ext_iff ?_ ((e1 _ _).trans ?_)
  · show (broadcastInDim _ _ _ _ : FVec Ideal S32768 .f32) (ix1 r) = _
    pointwise
  refine if_congr Fin.ext_iff ?_ ?_
  · show (broadcastInDim _ _ _ _ : FVec Ideal S32768 .f32) (ix1 r) = _
    pointwise
  simp -implicitDefEqProofs only [StableHlo.TRef.toBuf, StableHlo.TRef.ofBuf, cast_cast, cast_eq]
  show (pad S32768x128 ![0, 0] ![0, 127] ![0, 0] (fun i : S32768x1.Idx => (arg0 m c (ix3 0 (i 0) 0) : EReal)) (sitofp .f32 (constantI S_ 32 0#32) : FVec Ideal S_ .f32) pads_S32768x1_S32768x128_000_01270 h_S_ : FVec Ideal S32768x128 .f32) (ix2 r j) = _
  pointwise
  have h0 : (FloatOps.sitofp .f32 (0#32) : Ideal .f32) = (0 : EReal) := by
    show (((0#32 : BitVec 32).toInt : ℝ) : EReal) = 0
    simp
  rw [h0]
  split
  · rw [if_pos (by omega)]
  · rw [if_neg (by omega)]

/-- The hidden state that the kernel reads is doubled. -/
theorem v73_at (c : Dev nD) (r : Fin 32768) (u : Fin 256) : (show FVec Ideal S32768x256 .bf16 from V m c main_v73) (ix2 r u) = two * (arg1 m c (ix3 0 r u) : EReal) := by
  rw [V_apply]
  after_reads_at
  rw [ofBits_two]

/-- The cell state that the kernel reads. -/
theorem v74_at (c : Dev nD) (r : Fin 32768) (u : Fin 256) : (show FVec Ideal S32768x256 .f32 from V m c main_v74) (ix2 r u) = arg2 m c (ix3 0 r u) := by
  rw [V_apply]
  after_reads_at

/-- The head's weights that the kernel reads are halved. -/
theorem v76_at (c : Dev nD) (u : Fin 256) : (show FVec Ideal S1x256 .f32 from V m c main_v76) (ix2 0 u) = oneHalf * (arg7 m c (ix2 0 u) : EReal) := by
  rw [V_apply]
  after_reads_at
  rw [ofBits_half]

end Cert.Proof.KernelIdeal

end
-- ==== Proof.KernelValue.lean ====
module

public import proofs.«01_k».proof.Proof.Run
public import proofs.«01_k».proof.Proof.BlockValue
public import proofs.«01_k».proof.Proof.HostValue

@[expose] public section

noncomputable section

/-! # What the kernel's result array holds -/

namespace Cert.Proof.KernelIdeal

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (c : Dev nD)

/-- The row of the batch that row `r` of point `t`'s block is. -/
def row (t : Fin cfg0.N) (r : Fin 2048) : Fin 32768 :=
  ⟨t.val * 2048 + r.val, by have h : cfg0.N = 16 := N_0; have := t.isLt; omega⟩

/-- Each of the row-blocked windows moves with the point. -/
theorem index_moving (t : Fin cfg0.N) :
    (win0_0.index t 0 = t.val ∧ win0_0.index t 1 = 0) ∧ (win0_1.index t 0 = t.val ∧ win0_1.index t 1 = 0)
      ∧ (win0_2.index t 0 = t.val ∧ win0_2.index t 1 = 0) ∧ (win0_7.index t 0 = t.val ∧ win0_7.index t 1 = 0) := by
  rcases fin_N0 t with rfl | rfl | rfl | rfl | rfl | rfl | rfl | rfl | rfl | rfl | rfl | rfl | rfl | rfl | rfl | rfl <;> decide

/-- Each of the other windows stays. -/
theorem index_fixed (t : Fin cfg0.N) :
    (win0_3.index t 0 = 0 ∧ win0_3.index t 1 = 0) ∧ (win0_4.index t 0 = 0 ∧ win0_4.index t 1 = 0)
      ∧ (win0_5.index t 0 = 0 ∧ win0_5.index t 1 = 0) ∧ win0_6.index t 0 = 0 := by
  rcases fin_N0 t with rfl | rfl | rfl | rfl | rfl | rfl | rfl | rfl | rfl | rfl | rfl | rfl | rfl | rfl | rfl | rfl <;> decide

/-- The input's block. -/
theorem block0 (t : Fin cfg0.N) (r : Fin 2048) (j : Fin 128) : (iblk m c 0 t : Vec Ideal S2048x128 .bf16) (ix2 r j)
    = (show FVec Ideal S32768x128 .bf16 from V m c main_v69) (ix2 (row t r) j) := by
  unfold iblk
  rw [View.read_apply]
  show V m c main_v69 _ = V m c main_v69 _
  congr 1
  funext a
  apply Fin.ext
  match a with
  | ⟨0, _⟩ => show win0_0.index t 0 * 2048 + 1 * r.val = t.val * 2048 + r.val; rw [(index_moving t).1.1]; omega
  | ⟨1, _⟩ => show win0_0.index t 1 * 128 + 1 * j.val = j.val; rw [(index_moving t).1.2]; omega

/-- The hidden state's block. -/
theorem block1 (t : Fin cfg0.N) (r : Fin 2048) (j : Fin 256) : (iblk m c 1 t : Vec Ideal S2048x256 .bf16) (ix2 r j)
    = (show FVec Ideal S32768x256 .bf16 from V m c main_v73) (ix2 (row t r) j) := by
  unfold iblk
  rw [View.read_apply]
  show V m c main_v73 _ = V m c main_v73 _
  congr 1
  funext a
  apply Fin.ext
  match a with
  | ⟨0, _⟩ => show win0_1.index t 0 * 2048 + 1 * r.val = t.val * 2048 + r.val; rw [(index_moving t).2.1.1]; omega
  | ⟨1, _⟩ => show win0_1.index t 1 * 256 + 1 * j.val = j.val; rw [(index_moving t).2.1.2]; omega

/-- The cell state's block. -/
theorem block2 (t : Fin cfg0.N) (r : Fin 2048) (j : Fin 256) : (iblk m c 2 t : Vec Ideal S2048x256 .f32) (ix2 r j)
    = (show FVec Ideal S32768x256 .f32 from V m c main_v74) (ix2 (row t r) j) := by
  unfold iblk
  rw [View.read_apply]
  show V m c main_v74 _ = V m c main_v74 _
  congr 1
  funext a
  apply Fin.ext
  match a with
  | ⟨0, _⟩ => show win0_2.index t 0 * 2048 + 1 * r.val = t.val * 2048 + r.val; rw [(index_moving t).2.2.1.1]; omega
  | ⟨1, _⟩ => show win0_2.index t 1 * 256 + 1 * j.val = j.val; rw [(index_moving t).2.2.1.2]; omega

/-- The recurrent weights' block is their array. -/
theorem block3 (t : Fin cfg0.N) (k : Fin 256) (j : Fin 1024) : (iblk m c 3 t : Vec Ideal S256x1024 .bf16) (ix2 k j)
    = (show FVec Ideal S256x1024 .bf16 from V m c main_v28) (ix2 k j) := by
  unfold iblk
  rw [View.read_apply]
  show V m c main_v28 _ = V m c main_v28 _
  congr 1
  funext a
  apply Fin.ext
  match a with
  | ⟨0, _⟩ => show win0_3.index t 0 * 256 + 1 * k.val = k.val; rw [(index_fixed t).1.1]; omega
  | ⟨1, _⟩ => show win0_3.index t 1 * 1024 + 1 * j.val = j.val; rw [(index_fixed t).1.2]; omega

/-- The input weights' block is their array. -/
theorem block4 (t : Fin cfg0.N) (k : Fin 128) (j : Fin 1024) : (iblk m c 4 t : Vec Ideal S128x1024 .bf16) (ix2 k j)
    = (show FVec Ideal S128x1024 .bf16 from V m c main_v60) (ix2 k j) := by
  unfold iblk
  rw [View.read_apply]
  show V m c main_v60 _ = V m c main_v60 _
  congr 1
  funext a
  apply Fin.ext
  match a with
  | ⟨0, _⟩ => show win0_4.index t 0 * 128 + 1 * k.val = k.val; rw [(index_fixed t).2.1.1]; omega
  | ⟨1, _⟩ => show win0_4.index t 1 * 1024 + 1 * j.val = j.val; rw [(index_fixed t).2.1.2]; omega

/-- The head's weights' block is their array. -/
theorem block5 (t : Fin cfg0.N) (u : Fin 256) : (iblk m c 5 t : Vec Ideal S1x256 .f32) (ix2 0 u)
    = (show FVec Ideal S1x256 .f32 from V m c main_v76) (ix2 0 u) := by
  unfold iblk
  rw [View.read_apply]
  show V m c main_v76 _ = V m c main_v76 _
  congr 1
  funext a
  apply Fin.ext
  match a with
  | ⟨0, _⟩ => show win0_5.index t 0 * 1 + 1 * 0 = 0; rw [(index_fixed t).2.2.1.1]
  | ⟨1, _⟩ => show win0_5.index t 1 * 256 + 1 * u.val = u.val; rw [(index_fixed t).2.2.1.2]; omega

/-- The head's bias's block is its array. -/
theorem block6 (t : Fin cfg0.N) (i : S1.Idx) : (iblk m c 6 t : Vec Ideal S1 .f32) i = arg8 m c (ix1 0) := by
  unfold iblk
  rw [View.read_apply]
  show V m c main_arg8 _ = _
  rw [V_main_arg8]
  show (m (c, Proc.devRef .tc main_arg8) : FVec Ideal S1 .f32) _ = (m (c, Proc.devRef .tc main_arg8) : FVec Ideal S1 .f32) _
  congr 1
  funext a
  match a with
  | ⟨0, _⟩ => exact Subsingleton.elim (α := Fin 1) _ _

/-- The input's part of gate row `n` in row `r` of the batch, biases included. -/
abbrev gateInput (r : Fin 32768) (n : Fin 1024) : EReal :=
  ((arg0 m c (ix3 0 r 0) : EReal) * arg3 m c (ix2 n 0) + arg5 m c (ix1 n)) + arg6 m c (ix1 n)

/-- The plain output of step `t` for row `r` of the batch. -/
def answer (r : Fin 32768) (t : ℕ) : EReal :=
  output (fun n u => arg4 m c (ix2 n u)) (gateInput m c r) (fun u => arg7 m c (ix2 0 u)) (arg8 m c (ix1 0))
    (fun u => arg1 m c (ix3 0 r u)) (fun u => arg2 m c (ix3 0 r u)) t

variable (hb : ∀ n : Fin 1024, (arg5 m c (ix1 n) : EReal) + arg6 m c (ix1 n) ≠ ⊤)

include hb in
/-- The block of results that point `t` computes holds the plain outputs of its rows. -/
theorem block_out (t : Fin cfg0.N) (r : Fin 2048) (l : Fin 24) :
    out (iblk m c 0 t) (iblk m c 1 t) (iblk m c 2 t) (iblk m c 3 t) (iblk m c 4 t) (iblk m c 5 t) (iblk m c 6 t) (ix2 r l)
      = answer m c (row t r) l.val := by
  refine out_at (W := fun n u => arg4 m c (ix2 n u)) (X := fun r => gateInput m c (row t r)) (f := fun u => arg7 m c (ix2 0 u))
    (b := arg8 m c (ix1 0)) (H := fun r u => arg1 m c (ix3 0 (row t r) u)) (C := fun r u => arg2 m c (ix3 0 (row t r) u))
    (fun k j => (block3 m c t k j).trans (v28_at m c k j)) (fun r j => ?_)
    (fun r u => (block1 m c t r u).trans (v73_at m c _ u)) (fun r u => (block2 m c t r u).trans (v74_at m c _ u))
    (fun u => (block5 m c t u).trans (v76_at m c u)) (block6 m c t) r l
  refine product_at ((block0 m c t r 0).trans ((v69_at m c _ 0).trans ?_)) ((block0 m c t r 1).trans ((v69_at m c _ 1).trans ?_))
    ((block0 m c t r 2).trans ((v69_at m c _ 2).trans ?_)) ((block4 m c t 0 j).trans ((v60_at m c 0 j).trans ?_))
    ((block4 m c t 1 j).trans ((v60_at m c 1 j).trans ?_)) ((block4 m c t 2 j).trans ((v60_at m c 2 j).trans ?_))
    (fun k hk => (block4 m c t k j).trans ((v60_at m c k j).trans ?_)) (sc_pos j) (sc_ne_top j) (hb (ord j))
  · rfl
  · rfl
  · rfl
  · rfl
  · rfl
  · rfl
  · rw [if_neg (by omega), if_neg (by omega), if_neg (by omega)]

/-- The array of results, a row of the batch in each row and a step in each column. -/
def resultRows : Buf (Elt Ideal) ((c : Thread nD τ).loc main_v77) :=
  (fun i : S32768x24.Idx => answer m c (i 0) (i 1).val : FVec Ideal S32768x24 .f32)

include hb in
/-- What each point writes back is its part of that array. -/
theorem flushed_eq (t : Fin cfg0.N) (_ : (cfg0.win 7).flush t = true) :
    (dats m 0 c).flushed 7 t = ((cfg0.win 7).blk t).view.read (Elt Ideal) (resultRows m c) := by
  show (cfg0.win 7).cut (grid0.coords t) ((dats m 0 c).after 7 t) = _
  rw [after0_7]
  funext j
  have h0 : (j 0).val < 2048 := (j 0).isLt
  have h1 : (j 1).val < 24 := (j 1).isLt
  rw [View.read_apply]
  refine Eq.trans (b := out (iblk m c 0 t) (iblk m c 1 t) (iblk m c 2 t) (iblk m c 3 t) (iblk m c 4 t) (iblk m c 5 t) (iblk m c 6 t)
    (ix2 ⟨(j 0).val, h0⟩ ⟨(j 1).val, h1⟩)) ?_ ((block_out m c hb t _ _).trans ?_)
  · show out _ _ _ _ _ _ _ _ = _
    congr 1
    funext a
    match a with
    | ⟨0, _⟩ => rfl
    | ⟨1, _⟩ => rfl
  · have e0 : row t ⟨(j 0).val, h0⟩ = (((cfg0.win 7).blk t).view.emb j : S32768x24.Idx) 0 := Fin.ext (by
      show t.val * 2048 + (j 0).val = win0_7.index t 0 * 2048 + 1 * (j 0).val
      rw [(index_moving t).2.2.2.1]; omega)
    have e1 : (j 1).val = ((((cfg0.win 7).blk t).view.emb j : S32768x24.Idx) 1).val := by
      show (j 1).val = win0_7.index t 1 * 24 + 1 * (j 1).val
      rw [(index_moving t).2.2.2.2]; omega
    exact congrArg₂ (answer m c) e0 e1

include hb in
/-- So the array of results ends holding them all. -/
theorem final_rows : (dats m 0 c).arrAt 7 cfg0.N = resultRows m c :=
  (dats m 0 c).arrAt_eq_of_cover 7 (resultRows m c) (flushed_eq m c hb) fun i => by
    have h0 : (i 0 : Nat) < 32768 := (i 0).isLt
    have h1 : (i 1 : Nat) < 24 := (i 1).isLt
    have hN : cfg0.N = 16 := N_0
    let t : Fin cfg0.N := ⟨(i 0 : Nat) / 2048, by omega⟩
    refine ⟨t, flush0_7 t, ?_⟩
    show i ∈ ((View.whole main_v77).slice (win0_7.rect t)).set
    rw [View.set_slice_whole, Rect.mem_set_unit]
    have q0 : win0_7.index t 0 = (i 0 : Nat) / 2048 := (index_moving t).2.2.2.1
    have q1 : win0_7.index t 1 = 0 := (index_moving t).2.2.2.2
    intro a
    match a with
    | ⟨0, _⟩ =>
      show win0_7.index t 0 * 2048 ≤ (i 0 : Nat) ∧ (i 0 : Nat) < win0_7.index t 0 * 2048 + 2048
      omega
    | ⟨1, _⟩ =>
      show win0_7.index t 1 * 24 ≤ (i 1 : Nat) ∧ (i 1 : Nat) < win0_7.index t 1 * 24 + 24
      omega

/-- The result: a step in each row, a row of the batch in each column. -/
def resultArr : Buf (Elt Ideal) ((c : Thread nD τ).loc main_v79) :=
  (fun i : S24x32768x1.Idx => answer m c (i 1) (i 0).val : FVec Ideal S24x32768x1 .f32)

include hb in
/-- What the operations after the region make of the array of results. -/
theorem final_result : Pipeline.afterTail₀ cfgs (dats m) 0 (V0 m) [hostOps1] c main_v79 = resultArr m c := by
  have h7 : Pipeline.withArrays spec0 c (V0 m c) (fun w => (dats m 0 c).arrAt w cfg0.N) (Proc.devRef .tc main_v77) = resultRows m c :=
    (Pipeline.withArrays_arr spec0 launch0.win.arr_inj c (V0 m c) (fun w => (dats m 0 c).arrAt w cfg0.N) 7).trans (final_rows m c hb)
  unfold Pipeline.afterTail₀
  show StableHlo.after [StableHlo.unary main_v77 main_v78 _, StableHlo.reshape main_v78 main_v79 _ _] (Pipeline.withArrays spec0 c (V0 m c) (fun w => (dats m 0 c).arrAt w cfg0.N)) _ = _
  generalize Pipeline.withArrays spec0 c (V0 m c) (fun w => (dats m 0 c).arrAt w cfg0.N) = X at h7
  after_reads_simp
  rw [h7]
  funext i
  obtain ⟨a, b, u, rfl⟩ : ∃ (a : Fin 24) (b : Fin 32768) (u : Fin 1), i = ix3 a b u := ⟨i 0, i 1, i 2, by
    funext k; match k with
    | ⟨0, _⟩ => rfl
    | ⟨1, _⟩ => rfl
    | ⟨2, _⟩ => rfl⟩
  pointwise
  rfl

/-- Every run ends with the plain outputs in the result array. -/
theorem run_value (hb : ∀ (c : Dev nD) (n : Fin 1024), (arg5 m c (ix1 n) : EReal) + arg6 m c (ix1 n) ≠ ⊤) :
    θ_run defs (onTc (τ := τ) (main (F := Ideal))) ⟨m, fun _ => 0, ρ⟩
      (fun r => ∀ c : Dev nD, r.2.mem ((c.tc : Thread nD τ).loc main_v79) = resultArr m c) :=
  (θ_run defs _ _).mono (fun _ h c => ((h c).2 main_v79 (Pipeline.mem_restRefs_of main_v79 (by decide) (by decide))).trans (final_result m c (hb c)))
    (run_main m ρ)

end Cert.Proof.KernelIdeal

end
-- ==== Proof.SameText.lean ====
module

public import proofs.«01_k».proof.Proof.Run
public import proofs.«01_k».proof.Proof.Gen.Kernel

@[expose] public section

noncomputable section

/-! # The kernel and its idealization have one body

No operation is rewritten between the two, so what is proved of the idealization's body, over any floats, holds of the
kernel's. -/

namespace Cert.Proof

open Idealize.ShloMosaic Idealize.ShloMosaic.TcCoe Idealize.SL Idealize.SL.RA Idealize.SL.BI Idealize.SL.Sem
open scoped Idealize.SL.BI
open Idealize.SL.BI.BIBase

attribute [local instance] Cert.Kernel.Gen.facts Cert.KernelIdeal.Gen.facts

variable {F : FTy → Type} [FloatOps F]

/-- The two bodies are the same. -/
theorem body_eq : @Cert.Kernel.cc0_lstm_decode F _ Cert.Kernel.Gen.facts
    = @Cert.KernelIdeal.cc0_lstm_decode F _ Cert.KernelIdeal.Gen.facts := rfl

set_option maxHeartbeats 1000000 in
/-- The tables of bodies are the same. -/
theorem bodies_eq : Cert.Kernel.defs₀ (F := F) = Cert.KernelIdeal.defs₀ (F := F) := by
  unfold Cert.Kernel.defs₀ Cert.KernelIdeal.defs₀
  congr 1
  funext l a
  match l, a with
  | 0, (t, s) =>
    show Cert.Kernel.cc0_lstm_decode _ _ _ _ _ _ _ _ _ _ _ _ _ _ _ _ _ _ _ _ _ _ _ _ _ _ _ _ _ _ _ = _
    rw [body_eq]
    rfl

namespace KernelIdeal

open Cert.KernelIdeal Cert.KernelIdeal.Gen

/-- The scratch buffers at some contents. -/
abbrev held {σ : RefSig} (c : Dev nD)
    (arg9 : Memref σ .tc .vmem S2048x1024 .f32) (arg10 : Memref σ .tc .vmem S1024x256 .bf16)
    (arg11 : Memref σ .tc .vmem S1024x256 .bf16) (arg12 : Memref σ .tc .vmem S1024x256 .f32)
    (arg13 : Memref σ .tc .vmem S1024x256 .f32) (arg14 : Memref σ .tc .vmem S1024x24 .f32)
    (arg15 : Memref σ .tc .vmem S1024x24 .f32) : sProp (MT nD τ σ Unit (Elt F) ℕ (UR σ nD τ) ℕ) :=
  iprop((∃ f : Buf (Elt F) (arg9.view.loc (c : Thread nD τ)), arg9.view.loc (c : Thread nD τ) ↦{fullShare} f) ∗ (∃ f : Buf (Elt F) (arg10.view.loc (c : Thread nD τ)), arg10.view.loc (c : Thread nD τ) ↦{fullShare} f) ∗ (∃ f : Buf (Elt F) (arg11.view.loc (c : Thread nD τ)), arg11.view.loc (c : Thread nD τ) ↦{fullShare} f) ∗ (∃ f : Buf (Elt F) (arg12.view.loc (c : Thread nD τ)), arg12.view.loc (c : Thread nD τ) ↦{fullShare} f) ∗ (∃ f : Buf (Elt F) (arg13.view.loc (c : Thread nD τ)), arg13.view.loc (c : Thread nD τ) ↦{fullShare} f) ∗ (∃ f : Buf (Elt F) (arg14.view.loc (c : Thread nD τ)), arg14.view.loc (c : Thread nD τ) ↦{fullShare} f) ∗ (∃ f : Buf (Elt F) (arg15.view.loc (c : Thread nD τ)), arg15.view.loc (c : Thread nD τ) ↦{fullShare} f))

/-- What is asked of a body `B` under a table `D`: on whole memrefs it leaves the inputs' blocks and ends the result's
    buffer at `out` of them. -/
def Spec {σ : RefSig} {Λ : Labels} {G : Type} (D : Defs nD τ σ (Elt F) Λ)
    (B : ∀ (i : G) (arg1 : Memref σ .tc .vmem S2048x128 .bf16) (harg1 : arg1.IsWhole)
      (arg2 : Memref σ .tc .vmem S2048x256 .bf16) (harg2 : arg2.IsWhole)
      (arg3 : Memref σ .tc .vmem S2048x256 .f32) (harg3 : arg3.IsWhole)
      (arg4 : Memref σ .tc .vmem S256x1024 .bf16) (harg4 : arg4.IsWhole)
      (arg5 : Memref σ .tc .vmem S128x1024 .bf16) (harg5 : arg5.IsWhole)
      (arg6 : Memref σ .tc .vmem S1x256 .f32) (harg6 : arg6.IsWhole) (arg7 : Memref σ .tc .smem S1 .f32)
      (harg7 : arg7.IsWhole) (arg8 : Memref σ .tc .vmem S2048x24 .f32) (harg8 : arg8.IsWhole)
      (arg9 : Memref σ .tc .vmem S2048x1024 .f32) (harg9 : arg9.IsWhole)
      (arg10 : Memref σ .tc .vmem S1024x256 .bf16) (harg10 : arg10.IsWhole)
      (arg11 : Memref σ .tc .vmem S1024x256 .bf16) (harg11 : arg11.IsWhole)
      (arg12 : Memref σ .tc .vmem S1024x256 .f32) (harg12 : arg12.IsWhole)
      (arg13 : Memref σ .tc .vmem S1024x256 .f32) (harg13 : arg13.IsWhole)
      (arg14 : Memref σ .tc .vmem S1024x24 .f32) (harg14 : arg14.IsWhole)
      (arg15 : Memref σ .tc .vmem S1024x24 .f32) (harg15 : arg15.IsWhole),
      Prog (TpuEff nD τ σ (Elt F) Λ .tc) PUnit) : Prop :=
  ∀ (c : Dev nD)
    (i : G) (arg1 : Memref σ .tc .vmem S2048x128 .bf16) (harg1 : arg1.IsWhole)
    (arg2 : Memref σ .tc .vmem S2048x256 .bf16) (harg2 : arg2.IsWhole)
    (arg3 : Memref σ .tc .vmem S2048x256 .f32) (harg3 : arg3.IsWhole)
    (arg4 : Memref σ .tc .vmem S256x1024 .bf16) (harg4 : arg4.IsWhole)
    (arg5 : Memref σ .tc .vmem S128x1024 .bf16) (harg5 : arg5.IsWhole)
    (arg6 : Memref σ .tc .vmem S1x256 .f32) (harg6 : arg6.IsWhole) (arg7 : Memref σ .tc .smem S1 .f32)
    (harg7 : arg7.IsWhole) (arg8 : Memref σ .tc .vmem S2048x24 .f32) (harg8 : arg8.IsWhole)
    (arg9 : Memref σ .tc .vmem S2048x1024 .f32) (harg9 : arg9.IsWhole)
    (arg10 : Memref σ .tc .vmem S1024x256 .bf16) (harg10 : arg10.IsWhole)
    (arg11 : Memref σ .tc .vmem S1024x256 .bf16) (harg11 : arg11.IsWhole)
    (arg12 : Memref σ .tc .vmem S1024x256 .f32) (harg12 : arg12.IsWhole)
    (arg13 : Memref σ .tc .vmem S1024x256 .f32) (harg13 : arg13.IsWhole)
    (arg14 : Memref σ .tc .vmem S1024x24 .f32) (harg14 : arg14.IsWhole)
    (arg15 : Memref σ .tc .vmem S1024x24 .f32) (harg15 : arg15.IsWhole)
    (x1 : Vec F S2048x128 .bf16) (x2 : Vec F S2048x256 .bf16) (x3 : Vec F S2048x256 .f32)
    (x4 : Vec F S256x1024 .bf16) (x5 : Vec F S128x1024 .bf16) (x6 : Vec F S1x256 .f32) (x7 : Vec F S1 .f32)
    (K : PUnit → sProp (MT nD τ σ Unit (Elt F) ℕ (UR σ nD τ) ℕ)),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ held c arg9 arg10 arg11 arg12 arg13 arg14 arg15
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out x1 x2 x3 x4 x5 x6 x7) ∗ held c arg9 arg10 arg11 arg12 arg13 arg14 arg15) -∗ K ⟨⟩))
      ⊢ wp frame (wpE D 𝒱₀ c none) Set.univ (B i arg1 harg1 arg2 harg2 arg3 harg3 arg4 harg4 arg5 harg5 arg6 harg6 arg7 harg7 arg8 harg8 arg9 harg9 arg10 harg10 arg11 harg11 arg12 harg12 arg13 harg13 arg14 harg14 arg15 harg15) K

/-- The idealization's body meets it. -/
theorem spec : Spec (F := F) defs₀ cc0_lstm_decode := sound_kernel

end KernelIdeal

/-- The kernel's body meets it, said of the idealization's signature. -/
theorem spec_same : KernelIdeal.Spec (σ := Cert.KernelIdeal.sig) (F := F) Cert.Kernel.defs₀ Cert.Kernel.cc0_lstm_decode := by
  have h := KernelIdeal.spec (F := F)
  rw [← bodies_eq, ← body_eq] at h
  exact h

/-- The same, said of the kernel's own signature. -/
theorem spec_kernel : KernelIdeal.Spec (σ := Cert.Kernel.sig) (Λ := Cert.Kernel.Λ₀) (G := Cert.Kernel.grid0.Coords) (F := F)
    Cert.Kernel.defs₀ Cert.Kernel.cc0_lstm_decode := spec_same

end Cert.Proof

end
-- ==== Proof.KernelRun.lean ====
module

public import proofs.«01_k».proof.Proof.SameText
public import proofs.«01_k».proof.Proof.Gen.Kernel.Frame
public import Idealize.ShloMosaic.Lib.Claim

@[expose] public section

noncomputable section

/-! # The kernel's run

The launch is set up for the kernel as for its idealization; the body's part is `spec_kernel`. -/

namespace Cert.Proof.Kernel

open Cert.Kernel Cert.Kernel.Gen
open Cert.Proof.KernelIdeal (out 𝒱₀)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, each input's block left in place, the result's block
    at `out` of the inputs' blocks; the scratch buffers and the generator register at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t = iblk m c 5 t := by dsimp only [dats]
/-- Window 6 after the body. -/
theorem after0_6 (c : Dev nD) (t : Fin cfg0.N) : (dats m 0 c).after 6 t = iblk m c 6 t := by dsimp only [dats]
/-- The result's window after the body. -/
theorem after0_7 (c : Dev nD) (t : Fin cfg0.N) : (dats m 0 c).after 7 t = out (iblk m c 0 t) (iblk m c 1 t) (iblk m c 2 t) (iblk m c 3 t) (iblk m c 4 t) (iblk m c 5 t) (iblk m c 6 t) := by dsimp only [dats]

/-- Window 0 before the body. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body's triple at any point of the grid. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (spec_kernel (F := F) c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The pipeline's obligation for the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every run of the program ends, with the pipeline's arrays at what the proof data give, the rest at what the host
    operations leave, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The program ends, its arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Proof.Kernel

end
-- ==== Proof.RefFrame.lean ====
module

public import proofs.«01_k».proof.Proof.Gen.ReferenceIdeal.Run
public import Idealize.ShloMosaic.Lib.Quiescent

@[expose] public section

noncomputable section

namespace Cert.Proof.ReferenceIdeal

open Cert.ReferenceIdeal Cert.ReferenceIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The reference ends, its arguments unchanged and every counter at zero: it has none. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2, sem_eq_zero_of_no_sems rfl r.2⟩) (Cert.ReferenceIdeal.Value.run m ρ)

end Cert.Proof.ReferenceIdeal

end
-- ==== Proof.RefValue.lean ====
module

public import proofs.«01_k».proof.Proof.Gen.ReferenceIdeal.Run
public import proofs.«01_k».proof.Proof.Cell
public import Idealize.ShloMosaic.Lib.WordCmp
public import Idealize.ShloMosaic.Lib.Routing.OpsSet
public import Idealize.ShloMosaic.Lib.Pointwise
public import Idealize.ShloMosaic.Lib.StableHlo.ReadAt

@[expose] public section

noncomputable section

namespace Cert.Proof.ReferenceIdeal

open Cert.ReferenceIdeal Cert.ReferenceIdeal.Gen Cert.ReferenceIdeal.Value
open Idealize.ShloMosaic Idealize.ShloMosaic.TcCoe

variable (W : Fin 1024 → Fin 256 → EReal) (X : Fin 32768 → Fin 1024 → EReal) (f : Fin 256 → EReal) (b : EReal)
  (H C : Fin 32768 → Fin 256 → EReal)

/-- What the loop carries after `k` trips. -/
structure AtTrip (k : ℕ) (V : Valuation τ sig (Elt Ideal)) : Prop where
  weights : ∀ n u, (V (Proc.devRef .tc main_v12_0) : FVec Ideal S1024x256 .f32) (ix2 n u) = W n u
  inputs : ∀ r n, (V (Proc.devRef .tc main_v12_1) : FVec Ideal S32768x1024 .f32) (ix2 r n) = X r n
  head : ∀ u, (V (Proc.devRef .tc main_v12_2) : FVec Ideal S1x256 .f32) (ix2 0 u) = f u
  bias : (V (Proc.devRef .tc main_v12_3) : FVec Ideal S1 .f32) (ix1 0) = b
  count : (V (Proc.devRef .tc main_v12_4) : IVec S_ 32) (Shape.Idx.first h_S_) = BitVec.ofNat 32 k
  hidden : ∀ r u, (V (Proc.devRef .tc main_v12_5) : FVec Ideal S32768x256 .f32) (ix2 r u) = (states W (X r) (H r) (C r) k).1 u
  cell : ∀ r u, (V (Proc.devRef .tc main_v12_6) : FVec Ideal S32768x256 .f32) (ix2 r u) = (states W (X r) (H r) (C r) k).2 u
  outputs : ∀ (t : Fin 24) r, t.val < k → (V (Proc.devRef .tc main_v12_7) : FVec Ideal S24x32768x1 .f32) (ix3 t r 0) = output W (X r) f b (H r) (C r) t.val

variable {W X f b H C}

/-- The gates before their nonlinearities. -/
theorem gate_at {k : ℕ} {V : Valuation τ sig (Elt Ideal)} (h : AtTrip W X f b H C k V) (r : Fin 32768) (n : Fin 1024) :
    (res_main_while0b_v15 V : FVec Ideal S32768x1024 .f32) (ix2 r n) = gate W (X r) (states W (X r) (H r) (C r) k).1 n := by
  unfold res_main_while0b_v15
  pointwise
  unfold gate
  refine congrArg₂ (· + ·) (h.inputs r n) (Finset.sum_congr rfl fun u _ => congrArg₂ (· * ·) (h.hidden r u) (h.weights n u))

/-- The cell state after one more trip. -/
theorem cell_at {k : ℕ} {V : Valuation τ sig (Elt Ideal)} (h : AtTrip W X f b H C k V) (r : Fin 32768) (u : Fin 256) :
    (res_main_while0b_v41 V : FVec Ideal S32768x256 .f32) (ix2 r u) = (states W (X r) (H r) (C r) (k + 1)).2 u := by
  have hg := gate_at h r
  unfold res_main_while0b_v41
  pointwise
  rw [hg, hg, hg]
  exact congrArg (fun t => _ * t + _) (h.cell r u)

/-- The hidden state after one more trip. -/
theorem hidden_at {k : ℕ} {V : Valuation τ sig (Elt Ideal)} (h : AtTrip W X f b H C k V) (r : Fin 32768) (u : Fin 256) :
    (res_main_while0b_v43 V : FVec Ideal S32768x256 .f32) (ix2 r u) = (states W (X r) (H r) (C r) (k + 1)).1 u := by
  have hg := gate_at h r
  have hc := cell_at h r
  unfold res_main_while0b_v43
  pointwise
  rw [hg, hc]
  rfl

/-- One trip's result row, put in place of row `k` of the results. -/
theorem update_row {k : ℕ} (hk : k < 24) (A : FVec Ideal S24x32768x1 .f32) (B : FVec Ideal S1x32768x1 .f32) (start : Fin 3 → Int)
    (e : ∀ a, start a = ((![k, 0, 0] : Fin 3 → ℕ) a : Int)) (t : Fin 24) (r : Fin 32768) :
    Host.dynamicUpdateSlice A B start updateFits_S24x32768x1_S1x32768x1 (ix3 t r 0) = if t.val = k then B (ix3 0 r 0) else A (ix3 t r 0) := by
  have hs : S24x32768x1.Slices ![k, 0, 0] S1x32768x1 := ⟨rfl, fun a => by
    match a with
    | ⟨0, _⟩ => show k + 1 ≤ 24; omega
    | ⟨1, _⟩ => show 0 + 32768 ≤ 32768; omega
    | ⟨2, _⟩ => show 0 + 1 ≤ 1; omega⟩
  rw [WordCmp.dynamicUpdateSlice_eq_update A B start _ ![k, 0, 0] hs e]
  unfold updateSlice
  by_cases ht : t.val = k
  · rw [if_pos ht, dif_pos fun a => ?_]
    · refine congrArg B (funext fun a => Fin.ext ?_)
      match a with
      | ⟨0, _⟩ => show t.val - k = 0; omega
      | ⟨1, _⟩ => rfl
      | ⟨2, _⟩ => rfl
    · match a with
      | ⟨0, _⟩ => show k ≤ t.val ∧ t.val < k + 1; omega
      | ⟨1, _⟩ => show 0 ≤ r.val ∧ r.val < 0 + 32768; omega
      | ⟨2, _⟩ => show 0 ≤ 0 ∧ 0 < 0 + 1; omega
  · rw [if_neg ht, dif_neg fun hin => ?_]
    have h0 : k ≤ t.val ∧ t.val < k + 1 := hin 0
    omega

/-- The results after one more trip. -/
theorem row_at {k : ℕ} (hk : k < 24) {V : Valuation τ sig (Elt Ideal)} (h : AtTrip W X f b H C k V) (t : Fin 24) (r : Fin 32768) :
    (step_main_v12_7 V : FVec Ideal S24x32768x1 .f32) (ix3 t r 0) =
      if t.val = k then output W (X r) f b (H r) (C r) k else (V (Proc.devRef .tc main_v12_7) : FVec Ideal S24x32768x1 .f32) (ix3 t r 0) := by
  unfold step_main_v12_7
  refine (update_row hk _ _ _ (fun a => ?_) t r).trans (if_congr Iff.rfl ?_ rfl)
  · match a with
    | ⟨0, _⟩ =>
      show BitVec.toInt ((V (Proc.devRef .tc main_v12_4) : IVec S_ 32) (Shape.Idx.first h_S_)) = (k : Int)
      rw [h.count, StableHlo.Predicate.toInt_ofNat_small _ (by omega)]
    | ⟨1, _⟩ => rfl
    | ⟨2, _⟩ => rfl
  · have hh := hidden_at h r
    pointwise
    unfold output
    refine congrArg₂ (· + ·) (Finset.sum_congr rfl fun u _ => congrArg₂ (· * ·) (hh u) (h.head u)) h.bias

/-- One trip carries the loop from count `k` to count `k + 1`. -/
theorem step_at {k : ℕ} (hk : k < 24) {V : Valuation τ sig (Elt Ideal)} (h : AtTrip W X f b H C k V) : AtTrip W X f b H C (k + 1) (STEP V) where
  weights n u := by rw [STEP_main_v12_0]; exact h.weights n u
  inputs r n := by rw [STEP_main_v12_1]; exact h.inputs r n
  head u := by rw [STEP_main_v12_2]; exact h.head u
  bias := by rw [STEP_main_v12_3]; exact h.bias
  count := by
    rw [STEP_main_v12_4]
    show IntOp.addi ((V (Proc.devRef .tc main_v12_4) : IVec S_ 32) (Shape.Idx.first h_S_)) 1#32 = _
    rw [h.count]
    exact (BitVec.ofNat_add k 1).symm
  hidden r u := by rw [STEP_main_v12_5]; exact hidden_at h r u
  cell r u := by rw [STEP_main_v12_6]; exact cell_at h r u
  outputs t r ht := by
    rw [STEP_main_v12_7]
    refine (row_at hk h t r).trans ?_
    split
    · next e => rw [e]
    · exact h.outputs t r (by omega)

/-- The loop after any number of trips up to 24. -/
theorem trips_at {V : Valuation τ sig (Elt Ideal)} (h : AtTrip W X f b H C 0 V) : ∀ k, k ≤ 24 → AtTrip W X f b H C k (STEP^[k] V)
  | 0, _ => h
  | k + 1, hk => by
    rw [Function.iterate_succ_apply']
    exact step_at (by omega) (trips_at h k (by omega))

variable (m : (ℓ : Loc nD τ sig) → Buf (Elt Ideal) ℓ)

/-- The arguments of device `c`, read as arrays of extended reals. -/
abbrev arg0 (c : Dev nD) : FVec Ideal S1x32768x1 .f32 := m (c, Proc.devRef .tc main_arg0)
/-- The second argument. -/
abbrev arg1 (c : Dev nD) : FVec Ideal S1x32768x256 .f32 := m (c, Proc.devRef .tc main_arg1)
/-- The third argument. -/
abbrev arg2 (c : Dev nD) : FVec Ideal S1x32768x256 .f32 := m (c, Proc.devRef .tc main_arg2)
/-- The fourth argument. -/
abbrev arg3 (c : Dev nD) : FVec Ideal S1024x1 .f32 := m (c, Proc.devRef .tc main_arg3)
/-- The fifth argument. -/
abbrev arg4 (c : Dev nD) : FVec Ideal S1024x256 .f32 := m (c, Proc.devRef .tc main_arg4)
/-- The sixth argument. -/
abbrev arg5 (c : Dev nD) : FVec Ideal S1024 .f32 := m (c, Proc.devRef .tc main_arg5)
/-- The seventh argument. -/
abbrev arg6 (c : Dev nD) : FVec Ideal S1024 .f32 := m (c, Proc.devRef .tc main_arg6)
/-- The eighth argument. -/
abbrev arg7 (c : Dev nD) : FVec Ideal S1x256 .f32 := m (c, Proc.devRef .tc main_arg7)
/-- The ninth argument. -/
abbrev arg8 (c : Dev nD) : FVec Ideal S1 .f32 := m (c, Proc.devRef .tc main_arg8)

/-- What the loop is entered with. -/
theorem entry_at (c : Dev nD) : AtTrip (fun n u => arg4 m c (ix2 n u))
    (fun r n => ((arg0 m c (ix3 0 r 0) : EReal) * arg3 m c (ix2 n 0) + arg5 m c (ix1 n)) + arg6 m c (ix1 n))
    (fun u => arg7 m c (ix2 0 u)) (arg8 m c (ix1 0)) (fun r u => arg1 m c (ix3 0 r u)) (fun r u => arg2 m c (ix3 0 r u)) 0
    (StableHlo.entryContents preI m c) where
  weights n u := by
    show StableHlo.after hostOps0 (fun b => m (c, b)) (Proc.devRef .tc main_v12_0) (ix2 n u) = _
    after_reads_simp
    rfl
  inputs r n := by
    show StableHlo.after hostOps0 (fun b => m (c, b)) (Proc.devRef .tc main_v12_1) (ix2 r n) = _
    after_reads_simp
    show (addf _ _ : FVec Ideal S32768x1024 .f32) (ix2 r n) = _
    pointwise
    rw [Fin.sum_univ_one]
  head u := by
    show StableHlo.after hostOps0 (fun b => m (c, b)) (Proc.devRef .tc main_v12_2) (ix2 0 u) = _
    after_reads_simp
    rfl
  bias := by
    show StableHlo.after hostOps0 (fun b => m (c, b)) (Proc.devRef .tc main_v12_3) (ix1 0) = _
    after_reads_simp
    rfl
  count := by
    show StableHlo.after hostOps0 (fun b => m (c, b)) (Proc.devRef .tc main_v12_4) (Shape.Idx.first h_S_) = _
    after_reads_simp
    rfl
  hidden r u := by
    show StableHlo.after hostOps0 (fun b => m (c, b)) (Proc.devRef .tc main_v12_5) (ix2 r u) = _
    after_reads_simp
    show (shapeCast S32768x256 (arg1 m c) shapeCasts_S1x32768x256_S32768x256) (ix2 r u) = _
    pointwise
    rfl
  cell r u := by
    show StableHlo.after hostOps0 (fun b => m (c, b)) (Proc.devRef .tc main_v12_6) (ix2 r u) = _
    after_reads_simp
    show (shapeCast S32768x256 (arg2 m c) shapeCasts_S1x32768x256_S32768x256) (ix2 r u) = _
    pointwise
    rfl
  outputs t r ht := absurd ht (Nat.not_lt_zero _)

/-- The reference's result, entry by entry. -/
theorem result_at (c : Dev nD) (t : Fin 24) (r : Fin 32768) :
    ((STEP^[24] (StableHlo.entryContents preI m c)) (Proc.devRef .tc main_v12_7) : FVec Ideal S24x32768x1 .f32) (ix3 t r 0)
      = output (fun n u => arg4 m c (ix2 n u))
        (fun n => ((arg0 m c (ix3 0 r 0) : EReal) * arg3 m c (ix2 n 0) + arg5 m c (ix1 n)) + arg6 m c (ix1 n))
        (fun u => arg7 m c (ix2 0 u)) (arg8 m c (ix1 0)) (fun u => arg1 m c (ix3 0 r u)) (fun u => arg2 m c (ix3 0 r u)) t.val :=
  (trips_at (entry_at m c) 24 le_rfl).outputs t r t.isLt

end Cert.Proof.ReferenceIdeal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelValue
public import proofs.«01_k».proof.Proof.KernelRun
public import proofs.«01_k».proof.Proof.RefFrame
public import proofs.«01_k».proof.Proof.RefValue
public import Idealize.ShloMosaic.Lib.Pointwise

@[expose] public section

noncomputable section

/-! # The claim -/

namespace Cert.Proof

open Idealize.ShloMosaic Idealize.ShloMosaic.TcCoe Idealize.SL.Sem

/-- The precondition's one shape relation. -/
theorem pre_facts : Cert.Pre_bias_sum_below_inf.Facts := ⟨by decide⟩

/-- The precondition, read: each sum of the two biases is below infinity. -/
theorem bias_of_pre (m : (ℓ : Loc Cert.KernelIdeal.nD Cert.KernelIdeal.τ Cert.KernelIdeal.sig) → Buf (Elt Ideal) ℓ)
    (h : Cert.Pre_KernelIdeal_bias_sum_below_inf (hPre_bias_sum_below_inf := pre_facts) m)
    (c : Dev Cert.KernelIdeal.nD) (n : Fin 1024) :
    (KernelIdeal.arg5 m c (ix1 n) : EReal) + KernelIdeal.arg6 m c (ix1 n) ≠ ⊤ := by
  have hc := congrFun (h c) (ix1 n)
  unfold Cert.Pre_bias_sum_below_inf.fn at hc
  intro e
  have e' : addf (KernelIdeal.arg5 m c) (KernelIdeal.arg6 m c) (ix1 n) = (⊤ : EReal) := e
  have h0 : cmpf CmpFPredicate.olt (addf (KernelIdeal.arg5 m c) (KernelIdeal.arg6 m c))
      (broadcastInDim Pre_bias_sum_below_inf.S1024 ![] pre_facts.bcast_S_S1024 (constant Pre_bias_sum_below_inf.S_ FTy.f32 0x7F800000#32)) (ix1 n) = 0#1 := by
    show BitVec.ofBool (decide (addf (KernelIdeal.arg5 m c) (KernelIdeal.arg6 m c) (ix1 n) < Ideal.ofBits .f32 0x7F800000#32)) = 0#1
    rw [e', ofBits_inf]
    simp
  exact absurd (h0.symm.trans hc) (by decide)

/-- The kernel and the reference end with the same results. -/
theorem same_results : Cert.algebraic_KernelIdeal_ReferenceIdeal_pre_bias_sum_below_inf (hKernelIdeal := Cert.KernelIdeal.Gen.facts)
    (hReferenceIdeal := Cert.ReferenceIdeal.Gen.facts) (hPre_bias_sum_below_inf := pre_facts) := by
  intro m g m' g' hpre hargs
  refine ⟨fun c => KernelIdeal.resultArr m c, ?_, ?_⟩
  · exact (θ_run _ _ _).mono (fun r h c => ⟨h.1 c, h.2.1 c⟩)
      (θ_run_and (KernelIdeal.run_value m g (bias_of_pre m hpre)) (KernelIdeal.quiescent m g))
  · refine (θ_run _ _ _).mono (fun r h c => ⟨(h c).1.trans ?_, (h c).2⟩) (Cert.ReferenceIdeal.Value.run m' g')
    obtain ⟨e0, e1, e2, e3, e4, e5, e6, e7, e8⟩ := hargs c
    funext i
    have hi : i = ix3 (i 0) (i 1) 0 := by
      funext k
      match k with
      | ⟨0, _⟩ => rfl
      | ⟨1, _⟩ => rfl
      | ⟨2, _⟩ => exact Subsingleton.elim (α := Fin 1) _ _
    have e0 : ReferenceIdeal.arg0 m' c = KernelIdeal.arg0 m c := e0
    have e1 : ReferenceIdeal.arg1 m' c = KernelIdeal.arg1 m c := e1
    have e2 : ReferenceIdeal.arg2 m' c = KernelIdeal.arg2 m c := e2
    have e3 : ReferenceIdeal.arg3 m' c = KernelIdeal.arg3 m c := e3
    have e4 : ReferenceIdeal.arg4 m' c = KernelIdeal.arg4 m c := e4
    have e5 : ReferenceIdeal.arg5 m' c = KernelIdeal.arg5 m c := e5
    have e6 : ReferenceIdeal.arg6 m' c = KernelIdeal.arg6 m c := e6
    have e7 : ReferenceIdeal.arg7 m' c = KernelIdeal.arg7 m c := e7
    have e8 : ReferenceIdeal.arg8 m' c = KernelIdeal.arg8 m c := e8
    have hr := ReferenceIdeal.result_at m' c (i 0) (i 1)
    rw [e0, e1, e2, e3, e4, e5, e6, e7, e8] at hr
    rw [hi]
    exact hr

/-- The claim: the kernel and its idealization and the reference's run to their end and leave their arguments, the idealization
    keeps the kernel's text, and it computes what the reference computes. -/
theorem claim : Cert.Claim :=
  ⟨Cert.Kernel.Gen.facts, Cert.KernelIdeal.Gen.facts, Cert.ReferenceIdeal.Gen.facts, pre_facts,
    fun m g _ => Kernel.quiescent m g, fun m g _ => KernelIdeal.quiescent m g, fun m g _ => KernelIdeal.quiescent m g,
    fun m g _ => ReferenceIdeal.quiescent m g, fun m g _ => ReferenceIdeal.quiescent m g, trivial, same_results⟩

end Cert.Proof

end
